-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_reach [hPre_in_reach : Cert.Pre_in_reach.Facts] (m : (ℓ : Loc Cert.KernelIdeal.nD Cert.KernelIdeal.τ Cert.KernelIdeal.sig) → Buf (Elt Ideal) ℓ) : Prop :=
  ∀ c : Dev Cert.KernelIdeal.nD,
    (Cert.Pre_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_reach [hPre_in_reach : Cert.Pre_in_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_reach [hKernelIdeal : Cert.KernelIdeal.Facts] [hPre_in_reach : Cert.Pre_in_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_reach m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_reach [hReferenceIdeal : Cert.ReferenceIdeal.Facts] [hPre_in_reach : Cert.Pre_in_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_reach [hKernelIdeal : Cert.KernelIdeal.Facts] [hReferenceIdeal : Cert.ReferenceIdeal.Facts] [hPre_in_reach : Cert.Pre_in_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_reach : Cert.Pre_in_reach.Facts),
    quiescent_Kernel (hKernel := hKernel)
    ∧ quiescent_KernelIdeal (hKernelIdeal := hKernelIdeal)
    ∧ quiescent_KernelIdeal_pre_in_reach (hKernelIdeal := hKernelIdeal) (hPre_in_reach := hPre_in_reach)
    ∧ quiescent_ReferenceIdeal (hReferenceIdeal := hReferenceIdeal)
    ∧ quiescent_ReferenceIdeal_pre_in_reach (hReferenceIdeal := hReferenceIdeal) (hPre_in_reach := hPre_in_reach)
    ∧ preserves_Kernel_KernelIdeal
    ∧ algebraic_KernelIdeal_ReferenceIdeal_pre_in_reach (hKernelIdeal := hKernelIdeal) (hReferenceIdeal := hReferenceIdeal) (hPre_in_reach := hPre_in_reach)
-- ==== Pre_in_reach.lean ====
abbrev S4x4096x3 : Shape := ⟨3, ![4, 4096, 3]⟩
abbrev S4x4096x8 : Shape := ⟨3, ![4, 4096, 8]⟩
abbrev S4x1024x3 : Shape := ⟨3, ![4, 1024, 3]⟩
abbrev S4 : Shape := ⟨1, ![4]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x1024x3 : S_.BroadcastsInDim S4x1024x3 (![] : Fin 0 → Fin S4x1024x3.rank)
  reducesTo_S4x1024x3_S_d0_1_2 : S4x1024x3.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4x4096x3 .f32) (main_arg1 : FVec F S4x4096x8 .f32) (main_arg2 : FVec F S4x1024x3 .f32) (main_arg3 : IVec S4 32) : IVec S_ 1 :=
  let main_v0 : FVec F S4x4096x3 .f32 := Host.absf main_arg0
  let main_cst : FVec F S_ .f32 := constant S_ .f32 0x48A2C2A0#32
  let main_v1 : FVec F S4x4096x3 .f32 := broadcastInDim S4x4096x3 ![] bcast_S_S4x4096x3 main_cst
  let main_v2 : IVec S4x4096x3 1 := cmpf .ole main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x1024x3 .f32 := Host.absf main_arg2
  let main_cst_0 : FVec F S_ .f32 := constant S_ .f32 0x48A2C2A0#32
  let main_v5 : FVec F S4x1024x3 .f32 := broadcastInDim S4x1024x3 ![] bcast_S_S4x1024x3 main_cst_0
  let main_v6 : IVec S4x1024x3 1 := cmpf .ole main_v4 main_v5
  let main_c_1 : IVec S_ 1 := constantI S_ 1 1#1
  let main_v7 : IVec S_ 1 := (fun x v => Host.reduce IntOp.andi x v reducesTo_S4x1024x3_S_d0_1_2 h_S_) main_v6 main_c_1
  let main_v8 : IVec S_ 1 := andi main_v3 main_v7
  let main_c_2 : IVec S_ 32 := constantI S_ 32 2048#32
  let main_v9 : IVec S4 32 := broadcastInDim S4 ![] bcast_S_S4 main_c_2
  let main_v10 : IVec S4 1 := cmpi .sge main_arg3 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v8 main_v11
  main_v12
-- ==== Kernel.lean ====
abbrev S4x4096x3 : Shape := ⟨3, ![4, 4096, 3]⟩
abbrev S4x4096x8 : Shape := ⟨3, ![4, 4096, 8]⟩
abbrev S4x1024x3 : Shape := ⟨3, ![4, 1024, 3]⟩
abbrev S4 : Shape := ⟨1, ![4]⟩
abbrev S4x5120x3 : Shape := ⟨3, ![4, 5120, 3]⟩
abbrev S4x3x4096 : Shape := ⟨3, ![4, 3, 4096]⟩
abbrev S4x5120x10 : Shape := ⟨3, ![4, 5120, 10]⟩
abbrev S1x512x3 : Shape := ⟨3, ![1, 512, 3]⟩
abbrev S1x3x4096 : Shape := ⟨3, ![1, 3, 4096]⟩
abbrev S1x512x10 : Shape := ⟨3, ![1, 512, 10]⟩
abbrev S512x3 : Shape := ⟨2, ![512, 3]⟩
abbrev S3x4096 : Shape := ⟨2, ![3, 4096]⟩
abbrev S512x1 : Shape := ⟨2, ![512, 1]⟩
abbrev S1x4096 : Shape := ⟨2, ![1, 4096]⟩
abbrev S512x4096 : Shape := ⟨2, ![512, 4096]⟩
abbrev S1 : Shape := ⟨1, ![1]⟩
abbrev S512x2048 : Shape := ⟨2, ![512, 2048]⟩
abbrev S512 : Shape := ⟨1, ![512]⟩
abbrev S512x10 : Shape := ⟨2, ![512, 10]⟩
abbrev S_ : Shape := ⟨0, ![]⟩
abbrev S4x1x1 : Shape := ⟨3, ![4, 1, 1]⟩
abbrev S4x4096x10 : Shape := ⟨3, ![4, 4096, 10]⟩
abbrev S163840 : Shape := ⟨1, ![163840]⟩
abbrev S4x1024x10 : Shape := ⟨3, ![4, 1024, 10]⟩
abbrev S40960 : Shape := ⟨1, ![40960]⟩
abbrev S204800 : Shape := ⟨1, ![204800]⟩
abbrev S20480 : Shape := ⟨1, ![20480]⟩
abbrev S20480x10 : Shape := ⟨2, ![20480, 10]⟩

abbrev nBuf : Space → Nat
  | .hbm => 27
  | .vmem => 8
  | .smem => 1
  | _ => 0

abbrev bufTy : (tb : Table) → Fin (tcTables nBuf tb) → BufTy
  | .hbm, ⟨0, _⟩ => ⟨S4x4096x3, .f32⟩
  | .hbm, ⟨1, _⟩ => ⟨S4x4096x8, .f32⟩
  | .hbm, ⟨2, _⟩ => ⟨S4x1024x3, .f32⟩
  | .hbm, ⟨3, _⟩ => ⟨S4x5120x3, .f32⟩
  | .hbm, ⟨4, _⟩ => ⟨S4x3x4096, .f32⟩
  | .hbm, ⟨5, _⟩ => ⟨S4x5120x10, .f32⟩
  | .hbm, ⟨6, _⟩ => ⟨S4x5120x10, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4x1x1, .i32⟩
  | .hbm, ⟨12, _⟩ => ⟨S4x5120x10, .i32⟩
  | .hbm, ⟨13, _⟩ => ⟨S4x5120x10, .i32⟩
  | .hbm, ⟨14, _⟩ => ⟨S4x4096x10, .i32⟩
  | .hbm, ⟨15, _⟩ => ⟨S163840, .i32⟩
  | .hbm, ⟨16, _⟩ => ⟨S4x1024x10, .i32⟩
  | .hbm, ⟨17, _⟩ => ⟨S40960, .i32⟩
  | .hbm, ⟨18, _⟩ => ⟨S4x4096x10, .f32⟩
  | .hbm, ⟨19, _⟩ => ⟨S163840, .f32⟩
  | .hbm, ⟨20, _⟩ => ⟨S4x1024x10, .f32⟩
  | .hbm, ⟨21, _⟩ => ⟨S40960, .f32⟩
  | .hbm, ⟨22, _⟩ => ⟨S204800, .i32⟩
  | .hbm, ⟨23, _⟩ => ⟨S204800, .f32⟩
  | .hbm, ⟨24, _⟩ => ⟨S20480, .i32⟩
  | .hbm, ⟨25, _⟩ => ⟨S20480x10, .i32⟩
  | .hbm, ⟨26, _⟩ => ⟨S204800, .i32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x512x10, .f32⟩
  | .local _ .vmem, ⟨5, _⟩ => ⟨S1x512x10, .f32⟩
  | .local _ .vmem, ⟨6, _⟩ => ⟨S1x512x10, .i32⟩
  | .local _ .vmem, ⟨7, _⟩ => ⟨S1x512x10, .i32⟩
  | .local _ .smem, ⟨0, _⟩ => ⟨S4, .i32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 10], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v31 : Index := Scalar.indexCast arg0
  ![v31.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x10 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x4096x3 : Shape := ⟨3, ![4, 4096, 3]⟩
abbrev S4x4096x8 : Shape := ⟨3, ![4, 4096, 8]⟩
abbrev S4x1024x3 : Shape := ⟨3, ![4, 1024, 3]⟩
abbrev S4 : Shape := ⟨1, ![4]⟩
abbrev S4096 : Shape := ⟨1, ![4096]⟩
abbrev S1x4096 : Shape := ⟨2, ![1, 4096]⟩
abbrev S4x1 : Shape := ⟨2, ![4, 1]⟩
abbrev S4x4096 : Shape := ⟨2, ![4, 4096]⟩
abbrev S4x4096x1 : Shape := ⟨3, ![4, 4096, 1]⟩
abbrev S_ : Shape := ⟨0, ![]⟩
abbrev S4x1x4096 : Shape := ⟨3, ![4, 1, 4096]⟩
abbrev S4x4096x4096 : Shape := ⟨3, ![4, 4096, 4096]⟩
abbrev S4x3x4096 : Shape := ⟨3, ![4, 3, 4096]⟩
abbrev S4096x4096 : Shape := ⟨2, ![4096, 4096]⟩
abbrev S4x4096x4096x1 : Shape := ⟨4, ![4, 4096, 4096, 1]⟩
abbrev S1 : Shape := ⟨1, ![1]⟩
abbrev S1x1x1x1 : Shape := ⟨4, ![1, 1, 1, 1]⟩
abbrev S4x4096x10 : Shape := ⟨3, ![4, 4096, 10]⟩
abbrev S4x40960 : Shape := ⟨2, ![4, 40960]⟩
abbrev S4x1024 : Shape := ⟨2, ![4, 1024]⟩
abbrev S4x1024x1 : Shape := ⟨3, ![4, 1024, 1]⟩
abbrev S4x1024x4096 : Shape := ⟨3, ![4, 1024, 4096]⟩
abbrev S1024x4096 : Shape := ⟨2, ![1024, 4096]⟩
abbrev S4x1024x4096x1 : Shape := ⟨4, ![4, 1024, 4096, 1]⟩
abbrev S4x1024x10 : Shape := ⟨3, ![4, 1024, 10]⟩
abbrev S4x10240 : Shape := ⟨2, ![4, 10240]⟩
abbrev S163840 : Shape := ⟨1, ![163840]⟩
abbrev S40960 : Shape := ⟨1, ![40960]⟩
abbrev S204800 : Shape := ⟨1, ![204800]⟩
abbrev S20480 : Shape := ⟨1, ![20480]⟩
abbrev S20480x10 : Shape := ⟨2, ![20480, 10]⟩

abbrev nBuf : Space → Nat
  | .hbm => 141
  | .vmem => 0
  | .smem => 0
  | _ => 0

abbrev hbmTy0_0 (i : Nat) : BufTy := match i % 128 with
  | 0 => ⟨S4x4096x3, .f32⟩
  | 1 => ⟨S4x4096x8, .f32⟩
  | 2 => ⟨S4x1024x3, .f32⟩
  | 3 => ⟨S4, .i32⟩
  | 4 => ⟨S4096, .i32⟩
  | 5 => ⟨S1x4096, .i32⟩
  | 6 => ⟨S4x1, .i32⟩
  | 7 => ⟨S4x4096, .i32⟩
  | 8 => ⟨S4x4096, .i32⟩
  | 9 => ⟨S4x4096, .i1⟩
  | 10 => ⟨S4x4096x1, .i1⟩
  | 11 => ⟨S_, .f32⟩
  | 12 => ⟨S_, .f32⟩
  | 13 => ⟨S4x4096x3, .i1⟩
  | 14 => ⟨S4x4096x3, .f32⟩
  | 15 => ⟨S4x4096x3, .f32⟩
  | 16 => ⟨S4x4096x3, .f32⟩
  | 17 => ⟨S_, .f32⟩
  | 18 => ⟨S4x4096, .f32⟩
  | 19 => ⟨S4x4096x1, .f32⟩
  | 20 => ⟨S4x4096x3, .f32⟩
  | 21 => ⟨S_, .f32⟩
  | 22 => ⟨S4x4096, .f32⟩
  | 23 => ⟨S4x1x4096, .f32⟩
  | 24 => ⟨S4x4096x4096, .f32⟩
  | 25 => ⟨S4x4096x4096, .f32⟩
  | 26 => ⟨S4x4096x4096, .f32⟩
  | 27 => ⟨S4x3x4096, .f32⟩
  | 28 => ⟨S4x4096x4096, .f32⟩
  | 29 => ⟨S_, .f32⟩
  | 30 => ⟨S4x4096x4096, .f32⟩
  | 31 => ⟨S4x4096x4096, .f32⟩
  | 32 => ⟨S4x4096x4096, .f32⟩
  | 33 => ⟨S_, .f32⟩
  | 34 => ⟨S4x4096x4096, .f32⟩
  | 35 => ⟨S4x4096x4096, .f32⟩
  | 36 => ⟨S4x4096x4096, .f32⟩
  | 37 => ⟨S4096x4096, .i32⟩
  | 38 => ⟨S4x4096x4096, .i32⟩
  | 39 => ⟨S4x4096x4096, .f32⟩
  | 40 => ⟨S4x4096x4096, .i32⟩
  | 41 => ⟨S_, .i32⟩
  | 42 => ⟨S4x4096x4096, .i32⟩
  | 43 => ⟨S4x4096x4096, .i1⟩
  | 44 => ⟨S_, .i32⟩
  | 45 => ⟨S4x4096x4096, .i32⟩
  | 46 => ⟨S4x4096x4096, .i32⟩
  | 47 => ⟨S4x4096x4096, .i32⟩
  | 48 => ⟨S4x4096x4096x1, .i32⟩
  | 49 => ⟨S1, .i32⟩
  | 50 => ⟨S_, .i32⟩
  | 51 => ⟨S4x4096x4096x1, .i32⟩
  | 52 => ⟨S4x4096x4096x1, .i1⟩
  | 53 => ⟨S1x1x1x1, .i32⟩
  | 54 => ⟨S4x4096x4096x1, .i32⟩
  | 55 => ⟨S4x4096x4096x1, .i1⟩
  | 56 => ⟨S4x4096x4096x1, .i1⟩
  | 57 => ⟨S_, .i1⟩
  | 58 => ⟨S4x4096x4096, .i1⟩
  | 59 => ⟨S4x4096x4096, .f32⟩
  | 60 => ⟨S_, .f32⟩
  | 61 => ⟨S4x4096x4096, .f32⟩
  | 62 => ⟨S4x4096x4096, .f32⟩
  | 63 => ⟨S4x4096x10, .i32⟩
  | 64 => ⟨S4x40960, .i32⟩
  | 65 => ⟨S4x4096x10, .f32⟩
  | 66 => ⟨S4x40960, .f32⟩
  | 67 => ⟨S4x1024x3, .f32⟩
  | 68 => ⟨S_, .f32⟩
  | 69 => ⟨S4x1024, .f32⟩
  | 70 => ⟨S4x1024x1, .f32⟩
  | 71 => ⟨S4x4096x3, .f32⟩
  | 72 => ⟨S_, .f32⟩
  | 73 => ⟨S4x4096, .f32⟩
  | 74 => ⟨S4x1x4096, .f32⟩
  | 75 => ⟨S4x1024x4096, .f32⟩
  | 76 => ⟨S4x1024x4096, .f32⟩
  | 77 => ⟨S4x1024x4096, .f32⟩
  | 78 => ⟨S4x3x4096, .f32⟩
  | 79 => ⟨S4x1024x4096, .f32⟩
  | 80 => ⟨S_, .f32⟩
  | 81 => ⟨S4x1024x4096, .f32⟩
  | 82 => ⟨S4x1024x4096, .f32⟩
  | 83 => ⟨S4x1024x4096, .f32⟩
  | 84 => ⟨S_, .f32⟩
  | 85 => ⟨S4x1024x4096, .f32⟩
  | 86 => ⟨S4x1024x4096, .f32⟩
  | 87 => ⟨S4x1024x4096, .f32⟩
  | 88 => ⟨S1024x4096, .i32⟩
  | 89 => ⟨S4x1024x4096, .i32⟩
  | 90 => ⟨S4x1024x4096, .f32⟩
  | 91 => ⟨S4x1024x4096, .i32⟩
  | 92 => ⟨S_, .i32⟩
  | 93 => ⟨S4x1024x4096, .i32⟩
  | 94 => ⟨S4x1024x4096, .i1⟩
  | 95 => ⟨S_, .i32⟩
  | 96 => ⟨S4x1024x4096, .i32⟩
  | 97 => ⟨S4x1024x4096, .i32⟩
  | 98 => ⟨S4x1024x4096, .i32⟩
  | 99 => ⟨S4x1024x4096x1, .i32⟩
  | 100 => ⟨S1, .i32⟩
  | 101 => ⟨S_, .i32⟩
  | 102 => ⟨S4x1024x4096x1, .i32⟩
  | 103 => ⟨S4x1024x4096x1, .i1⟩
  | 104 => ⟨S1x1x1x1, .i32⟩
  | 105 => ⟨S4x1024x4096x1, .i32⟩
  | 106 => ⟨S4x1024x4096x1, .i1⟩
  | 107 => ⟨S4x1024x4096x1, .i1⟩
  | 108 => ⟨S_, .i1⟩
  | 109 => ⟨S4x1024x4096, .i1⟩
  | 110 => ⟨S4x1024x4096, .f32⟩
  | 111 => ⟨S_, .f32⟩
  | 112 => ⟨S4x1024x4096, .f32⟩
  | 113 => ⟨S4x1024x4096, .f32⟩
  | 114 => ⟨S4x1024x10, .i32⟩
  | 115 => ⟨S4x10240, .i32⟩
  | 116 => ⟨S4x1024x10, .f32⟩
  | 117 => ⟨S4x10240, .f32⟩
  | 118 => ⟨S163840, .i32⟩
  | 119 => ⟨S4, .i32⟩
  | 120 => ⟨S_, .i32⟩
  | 121 => ⟨S4, .i32⟩
  | 122 => ⟨S4, .i32⟩
  | 123 => ⟨S4x40960, .i32⟩
  | 124 => ⟨S163840, .i32⟩
  | 125 => ⟨S163840, .i32⟩
  | 126 => ⟨S40960, .i32⟩
  | 127 => ⟨S4, .i32⟩
  | _ => ⟨S4x4096x3, .f32⟩

abbrev hbmTy0_1 (i : Nat) : BufTy := match i % 128 with
  | 0 => ⟨S_, .i32⟩
  | 1 => ⟨S4, .i32⟩
  | 2 => ⟨S4, .i32⟩
  | 3 => ⟨S4x10240, .i32⟩
  | 4 => ⟨S40960, .i32⟩
  | 5 => ⟨S40960, .i32⟩
  | 6 => ⟨S204800, .i32⟩
  | 7 => ⟨S163840, .f32⟩
  | 8 => ⟨S40960, .f32⟩
  | 9 => ⟨S204800, .f32⟩
  | 10 => ⟨S20480, .i32⟩
  | 11 => ⟨S20480x10, .i32⟩
  | 12 => ⟨S204800, .i32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call1_v0 : Ref sig .tc := ⟨.hbm, 37, rfl⟩
abbrev main_call1_v1 : Ref sig .tc := ⟨.hbm, 38, rfl⟩
abbrev main_call1_v2_0 : Ref sig .tc := ⟨.hbm, 39, rfl⟩
abbrev main_v25 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_6 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_call3_v0 : Ref sig .tc := ⟨.hbm, 88, rfl⟩
abbrev main_call3_v1 : Ref sig .tc := ⟨.hbm, 89, rfl⟩
abbrev main_call3_v2_0 : Ref sig .tc := ⟨.hbm, 90, rfl⟩
abbrev main_v48 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_cst : Ref sig .tc := ⟨.hbm, 111, rfl⟩
abbrev main_call4_v14 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_c : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_c_8 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩

abbrev nD : Nat := 1
abbrev τ : Topo := Topo.v7x

variable {F : FTy → Type} [FloatOps F]
-- ==== Proof.Order.lean ====
/- The order in which a stable sort by a distance puts the senders — by the distance, and equal distances by the
   position — and the first entries of that sort as a selection made one entry at a time. -/
module

public import Idealize.ShloMosaic.Lib.SortPrefix
public import Mathlib.Data.EReal.Basic

@[expose] public section

namespace Cert.Knn

open Idealize.ShloMosaic

variable {n : Nat}

/-- `i` stands before `j`: its distance is less, or it is the same and `i` is the earlier position. -/
def Before (f : Fin n → EReal) (i j : Fin n) : Prop := f i < f j ∨ (f i = f j ∧ i < j)

/-- Of two entries not both come before the other. -/
theorem Before.asymm {f : Fin n → EReal} {i j : Fin n} (h : Before f i j) : ¬ Before f j i := by
  rintro (h' | ⟨e', h'⟩) <;> rcases h with h | ⟨e, h⟩
  · exact lt_asymm h h'
  · exact absurd h' (by rw [e]; exact lt_irrefl _)
  · exact absurd h (by rw [e']; exact lt_irrefl _)
  · exact lt_asymm h h'

/-- What comes before is not greater. -/
theorem Before.le {f : Fin n → EReal} {i j : Fin n} (h : Before f i j) : f i ≤ f j := by
  rcases h with h | ⟨e, _⟩
  · exact h.le
  · exact e.le

/-- Of two different entries one comes before the other. -/
theorem before_total (f : Fin n → EReal) {i j : Fin n} (h : i ≠ j) : Before f i j ∨ Before f j i := by
  rcases lt_trichotomy (f i) (f j) with h1 | h1 | h1
  · exact Or.inl (Or.inl h1)
  · rcases lt_or_gt_of_ne h with h2 | h2
    · exact Or.inl (Or.inr ⟨h1, h2⟩)
    · exact Or.inr (Or.inr ⟨h1.symm, h2⟩)
  · exact Or.inr (Or.inl h1)

/-- The order is transitive. -/
theorem Before.trans {f : Fin n → EReal} {i j k : Fin n} (h : Before f i j) (h' : Before f j k) : Before f i k := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- Of the positions outside `T` one stands before all the others, if there is any. -/
theorem exists_first (f : Fin n → EReal) (T : Finset (Fin n)) (hT : ∃ p, p ∉ T) :
    ∃ j, j ∉ T ∧ ∀ p, p ∉ T → p ≠ j → Before f j p := by
  classical
  have key : ∀ S : Finset (Fin n), S.Nonempty → ∃ j ∈ S, ∀ p ∈ S, p ≠ j → Before f j p := by
    intro S hS
    induction hS using Finset.Nonempty.cons_induction with
    | singleton a => exact ⟨a, by simp, fun p hp hne => absurd (Finset.mem_singleton.mp hp) hne⟩
    | cons a S ha hS ih =>
      obtain ⟨j, hj, hmin⟩ := ih
      have hne : a ≠ j := fun e => ha (e ▸ hj)
      rcases before_total f hne with hb | hb
      · refine ⟨a, by simp, fun p hp hpa => ?_⟩
        rcases Finset.mem_cons.mp hp with rfl | hp
        · exact absurd rfl hpa
        · by_cases e : p = j
          · exact e ▸ hb
          · exact hb.trans (hmin p hp e)
      · refine ⟨j, Finset.mem_cons.mpr (Or.inr hj), fun p hp hpj => ?_⟩
        rcases Finset.mem_cons.mp hp with rfl | hp
        · exact hb
        · exact hmin p hp hpj
  obtain ⟨p, hp⟩ := hT
  obtain ⟨j, hj, hmin⟩ := key (Finset.univ \ T) ⟨p, by simp [hp]⟩
  exact ⟨j, by simpa using hj, fun p hp hne => hmin p (by simp [hp]) hne⟩

/-- The `k` positions `σ` taken one at a time: each is new, its distance is finite, and of the positions not yet taken
    it stands first. -/
structure Selects {k : Nat} (f : Fin n → EReal) (σ : Fin k → Fin n) : Prop where
  inj : Function.Injective σ
  finite : ∀ i, f (σ i) < ⊤
  first : ∀ i p, (∀ j, j < i → σ j ≠ p) → p ≠ σ i → Before f (σ i) p

/-- A stable sort whose comparison is of the distances alone is the sort by distance and position. -/
theorem stableSort_by_position (B B' : Fin n → Fin n → Bool) (h : ∀ a b, a < b → B b a = B' b a) (l : List (Fin n))
    (hl : l.Pairwise (· < ·)) : stableSort B l = stableSort B' l := by
  induction l with
  | nil => rfl
  | cons a l ih =>
    obtain ⟨h1, h2⟩ := List.pairwise_cons.mp hl
    unfold stableSort
    rw [ih h2]
    exact insertBefore_congr B B' a _ fun b hb => h a b (h1 b ((perm_stableSort B' l).mem_iff.mp hb))

/-- The first `k` positions of the stable sort by `f`, if no position outside a selection `σ` by another distance, and
    none of it taken later, stands before one of `σ`. -/
theorem sortedFrom_eq {k : Nat} (hk : k ≤ n) (f : Fin n → EReal) (B : Fin n → Fin n → Bool)
    (hB : ∀ a b, B a b = true ↔ f a < f b) (σ : Fin k → Fin n) (hinj : Function.Injective σ)
    (hfirst : ∀ i p, (∀ j, j < i → σ j ≠ p) → p ≠ σ i → Before f (σ i) p) (i : Fin k) :
    sortedFrom B (i.castLE hk) = σ i := by
  classical
  let B' : Fin n → Fin n → Bool := fun a b => decide (Before f a b)
  have hB' : StrictTotalBefore B' := {
    irrefl := fun a => by simp [B', Before]
    trans := fun a b c h h' => by
      simp only [B', decide_eq_true_eq] at h h' ⊢
      exact h.trans h'
    total := fun a b h => by simpa only [B', decide_eq_true_eq] using before_total f h }
  have e : sortPositions n B = sortPositions n B' := by
    refine stableSort_by_position B B' (fun a b hab => ?_) _ (List.pairwise_lt_finRange n)
    have hd : B' b a = true ↔ f b < f a := by
      rw [show B' b a = decide (Before f b a) from rfl, decide_eq_true_iff]
      constructor
      · intro h
        rcases h with h | ⟨_, h⟩
        · exact h
        · exact absurd h (by omega)
      · exact fun h => Or.inl h
    rw [Bool.eq_iff_iff, hB, hd]
  have e' : sortedFrom B = sortedFrom B' := by
    funext x
    unfold sortedFrom
    rw [List.get_of_eq e]
    rfl
  rw [e']
  refine hB'.sortedFrom_eq_of_prefix hk σ hinj (fun i j hij => ?_) (fun i p hp => ?_) i
  · have := (hfirst i (σ j) (fun j' hj' => fun e => absurd (hinj e) (by omega)) (fun e => absurd (hinj e) (by omega))).asymm
    simpa only [B', decide_eq_false_iff_not] using this
  · have := (hfirst i p (fun j _ => hp j) (fun e => hp i e.symm)).asymm
    simpa only [B', decide_eq_false_iff_not] using this

end Cert.Knn

end
-- ==== Proof.Row.lean ====
/- One row of the kernel's state — the pairs (column, column + 2048) of a receiver's senders, each pair ordered by
   distance — and the ten rounds that take the nearest sender out of it. -/
module

public import proofs.«01_k».proof.Proof.Order
public import Idealize.ShloMosaic.Lib.SortNet.Extract

@[expose] public section

namespace Cert.Knn

open Idealize.ShloMosaic

/-- The state of one row: in each of the 2048 pairs the lesser distance still there, its sender, and the greater. -/
structure Row where
  lo : Fin 2048 → EReal
  co : Fin 2048 → BitVec 32
  hi : Fin 2048 → EReal

/-- The least distance of the row. -/
noncomputable def Row.min (r : Row) : EReal := Finset.univ.fold Min.min ⊤ r.lo

open Classical in
/-- The least sender among those at the least distance. -/
noncomputable def Row.idx (r : Row) : BitVec 32 :=
  Finset.univ.fold IntOp.minsi 2147483647#32 fun c => if r.lo c = r.min then r.co c else 2147483647#32

/-- The row with the nearest sender taken out: its pair moves up. -/
noncomputable def Row.pop (cohi : Fin 2048 → BitVec 32) (r : Row) : Row where
  lo c := if r.co c = r.idx then r.hi c else r.lo c
  co c := if r.co c = r.idx then cohi c else r.co c
  hi c := if r.co c = r.idx then ⊤ else r.hi c

/-- In the chosen pair the one behind moves up. -/
theorem Row.pop_at (cohi : Fin 2048 → BitVec 32) (r : Row) (c : Fin 2048) (h : r.co c = r.idx) :
    (r.pop cohi).lo c = r.hi c ∧ (r.pop cohi).co c = cohi c ∧ (r.pop cohi).hi c = ⊤ := by
  simp only [Row.pop, if_pos h, and_self]

/-- Every other pair stays as it is. -/
theorem Row.pop_off (cohi : Fin 2048 → BitVec 32) (r : Row) (c : Fin 2048) (h : r.co c ≠ r.idx) :
    (r.pop cohi).lo c = r.lo c ∧ (r.pop cohi).co c = r.co c ∧ (r.pop cohi).hi c = r.hi c := by
  simp only [Row.pop, if_neg h, and_self]

/-- A row after `k` rounds. -/
noncomputable def Row.pops (cohi : Fin 2048 → BitVec 32) (r : Row) : Nat → Row
  | 0 => r
  | k + 1 => (Row.pops cohi r k).pop cohi

/-- The sender of the left half at column `c`. -/
def lft (c : Fin 2048) : Fin 4096 := ⟨c, by omega⟩
/-- The sender of the right half at column `c`. -/
def rgt (c : Fin 2048) : Fin 4096 := ⟨c + 2048, by omega⟩

open Classical in
/-- The nearer sender of the pair. -/
noncomputable def fst (g : Fin 4096 → EReal) (c : Fin 2048) : Fin 4096 := if g (rgt c) < g (lft c) then rgt c else lft c
open Classical in
/-- The other sender of the pair. -/
noncomputable def snd (g : Fin 4096 → EReal) (c : Fin 2048) : Fin 4096 := if g (rgt c) < g (lft c) then lft c else rgt c

/-- The front one of a pair comes before the one behind. -/
theorem fst_before_snd (g : Fin 4096 → EReal) (c : Fin 2048) : Before g (fst g c) (snd g c) := by
  unfold fst snd
  by_cases h : g (rgt c) < g (lft c)
  · rw [if_pos h, if_pos h]; exact Or.inl h
  · rw [if_neg h, if_neg h]
    rcases (not_lt.mp h).lt_or_eq with h' | h'
    · exact Or.inl h'
    · exact Or.inr ⟨h', by show c.val < c.val + 2048; omega⟩

/-- The front one of a pair is of that pair. -/
theorem fst_mod (g : Fin 4096 → EReal) (c : Fin 2048) : (fst g c).val % 2048 = c.val := by
  unfold fst lft rgt
  split <;> simp <;> omega

/-- So is the one behind. -/
theorem snd_mod (g : Fin 4096 → EReal) (c : Fin 2048) : (snd g c).val % 2048 = c.val := by
  unfold snd lft rgt
  split <;> simp <;> omega

/-- The column of a sender's pair. -/
def col (j : Fin 4096) : Fin 2048 := ⟨j % 2048, by omega⟩

/-- Every sender is the nearer or the other of its pair. -/
theorem fst_or_snd (g : Fin 4096 → EReal) (j : Fin 4096) :
    j = fst g (col j) ∨ j = snd g (col j) := by
  unfold fst snd lft rgt col
  simp only [Fin.ext_iff]
  split <;> simp only <;> omega

open Classical in
/-- The sender a pair shows once those of `T` are taken. -/
noncomputable def cur (g : Fin 4096 → EReal) (T : Finset (Fin 4096)) (c : Fin 2048) : Fin 4096 :=
  if fst g c ∈ T then snd g c else fst g c

/-- So is the one in front now. -/
theorem cur_mod (g : Fin 4096 → EReal) (T : Finset (Fin 4096)) (c : Fin 2048) : (cur g T c).val % 2048 = c.val := by
  unfold cur
  split
  · exact snd_mod g c
  · exact fst_mod g c

/-- The number of a sender as the kernel writes it. -/
def word (j : Fin 4096) : BitVec 32 := BitVec.ofNat 32 j

/-- Different columns have different words. -/
theorem word_inj {i j : Fin 4096} : word i = word j ↔ i = j := by
  constructor
  · intro h
    have := congrArg BitVec.toNat h
    simp only [word, BitVec.toNat_ofNat] at this
    exact Fin.ext (by omega)
  · exact fun h => h ▸ rfl

/-- A column's word is its number. -/
theorem word_toInt (j : Fin 4096) : (word j).toInt = j.val := by
  unfold word
  rw [BitVec.toInt_eq_toNat_of_lt] <;> simp only [BitVec.toNat_ofNat] <;> omega

open Classical in
/-- The row `r` holds the senders at the distances `g`, those of `T` taken out. -/
structure Holds (g : Fin 4096 → EReal) (T : Finset (Fin 4096)) (r : Row) : Prop where
  lo : ∀ c, r.lo c = if cur g T c ∈ T then ⊤ else g (cur g T c)
  co : ∀ c, r.co c = word (cur g T c)
  hi : ∀ c, r.hi c = if fst g c ∈ T then ⊤ else g (snd g c)
  closed : ∀ c, snd g c ∈ T → fst g c ∈ T

/-- The fold of the minimum is the value that is least and is met. -/
theorem fold_min_eq {ι : Type} [Fintype ι] (f : ι → EReal) (i : ι) (h : ∀ j, f i ≤ f j) :
    Finset.univ.fold Min.min ⊤ f = f i := by
  refine le_antisymm ?_ ?_
  · exact (Finset.fold_min_le _).mpr (Or.inr ⟨i, Finset.mem_univ _, le_rfl⟩)
  · exact (Finset.le_fold_min _).mpr ⟨le_top, fun j _ => h j⟩

/-- The fold of the signed minimum is the word that is least and is met. -/
theorem fold_minsi_eq {ι : Type} [Fintype ι] (z : BitVec 32) (f : ι → BitVec 32) (i : ι) (hz : (f i).toInt ≤ z.toInt)
    (h : ∀ j, (f i).toInt ≤ (f j).toInt) : Finset.univ.fold IntOp.minsi z f = f i := by
  apply BitVec.eq_of_toInt_eq
  have hf : (Finset.univ.fold IntOp.minsi z f).toInt = Finset.univ.fold Min.min z.toInt fun j => (f j).toInt :=
    (Finset.fold_hom (m := BitVec.toInt) fun x y => (SortNet.toInt_minsi x y)).symm
  rw [hf]
  refine le_antisymm ?_ ?_
  · exact (Finset.fold_min_le _).mpr (Or.inr ⟨i, Finset.mem_univ _, le_rfl⟩)
  · exact (Finset.le_fold_min _).mpr ⟨hz, fun j _ => h j⟩

section
variable {g : Fin 4096 → EReal} {T : Finset (Fin 4096)} {r : Row} {j : Fin 4096}

/-- The first sender not yet taken is the one its pair shows. -/
theorem cur_first (h : Holds g T r) (hj : j ∉ T) (hmin : ∀ p, p ∉ T → p ≠ j → Before g j p) :
    cur g T (col j) = j := by
  rcases fst_or_snd g j with e | e
  · unfold cur; rw [if_neg (e ▸ hj), ← e]
  · unfold cur
    by_cases hf : fst g (col j) ∈ T
    · rw [if_pos hf, ← e]
    · have hb := fst_before_snd g (col j)
      rw [← e] at hb
      have hne : fst g (col j) ≠ j := fun e' => by rw [e'] at hb; exact hb.asymm hb
      exact absurd (hmin _ hf hne) hb.asymm

/-- The column that comes before all that are left stands in front of its own pair and of no other. -/
theorem cur_eq_iff (h : Holds g T r) (hj : j ∉ T) (hmin : ∀ p, p ∉ T → p ≠ j → Before g j p) (c : Fin 2048) :
    cur g T c = j ↔ c = (col j) := by
  constructor
  · intro e
    have := cur_mod g T c
    rw [e] at this
    exact Fin.ext this.symm
  · rintro rfl; exact cur_first h hj hmin

/-- The least distance of the row is the one of the first sender not yet taken. -/
theorem Holds.min_eq (h : Holds g T r) (hj : j ∉ T) (hmin : ∀ p, p ∉ T → p ≠ j → Before g j p) : r.min = g j := by
  have hc := cur_first h hj hmin
  have e : r.lo (col j) = g j := by rw [h.lo, hc, if_neg hj]
  rw [← e]
  refine fold_min_eq r.lo _ fun c => ?_
  rw [e, h.lo c]
  split
  · exact le_top
  · rename_i hcur
    by_cases e' : cur g T c = j
    · rw [e']
    · exact (hmin _ hcur e').le

/-- And the sender found is that one. -/
theorem Holds.idx_eq (h : Holds g T r) (hj : j ∉ T) (hfin : g j < ⊤) (hmin : ∀ p, p ∉ T → p ≠ j → Before g j p) :
    r.idx = word j := by
  have hc := cur_first h hj hmin
  have hm := h.min_eq hj hmin
  have e : r.lo (col j) = r.min := by rw [h.lo, hc, if_neg hj, hm]
  have hw : (2147483647#32).toInt = 2147483647 := by decide
  have key := fold_minsi_eq 2147483647#32 (fun c => open Classical in if r.lo c = r.min then r.co c else 2147483647#32)
    (col j) ?_ ?_
  · unfold Row.idx
    rw [key, if_pos e, h.co, hc]
  · rw [if_pos e, h.co, hc, word_toInt, hw]; omega
  · intro c
    rw [if_pos e, h.co, hc, word_toInt]
    by_cases hlo : r.lo c = r.min
    · rw [if_pos hlo, h.co, word_toInt]
      rw [h.lo, hm] at hlo
      split at hlo
      · exact absurd hfin (by rw [← hlo]; exact lt_irrefl _)
      · rename_i hcur
        by_cases e' : cur g T c = j
        · rw [e']
        · rcases hmin _ hcur e' with hlt | ⟨_, hlt⟩
          · exact absurd hlt (by rw [hlo]; exact lt_irrefl _)
          · exact_mod_cast le_of_lt hlt
    · rw [if_neg hlo, hw]; omega

open Classical in
/-- Taking the nearest sender out leaves a row that holds the others. -/
theorem Holds.pop (h : Holds g T r) (hj : j ∉ T) (hfin : g j < ⊤) (hmin : ∀ p, p ∉ T → p ≠ j → Before g j p) :
    Holds g (insert j T) (r.pop fun c => word (snd g c)) := by
  have hi := h.idx_eq hj hfin hmin
  have hc := cur_first h hj hmin
  have hmem : ∀ (c : Fin 2048) (p : Fin 4096), p.val % 2048 = c.val → c ≠ (col j) → (p ∈ insert j T ↔ p ∈ T) := by
    intro c p hp hne
    refine ⟨fun hm => (Finset.mem_insert.mp hm).resolve_left fun e => hne (Fin.ext ?_), Finset.mem_insert_of_mem⟩
    rw [← hp, e]; rfl
  have hcur : ∀ c, c ≠ (col j) → cur g (insert j T) c = cur g T c := by
    intro c hne
    unfold cur
    rw [if_congr (hmem c _ (fst_mod g c) hne) rfl rfl]
  have hco : ∀ c, r.co c = r.idx ↔ c = (col j) := by
    intro c
    rw [hi, h.co, word_inj, cur_eq_iff h hj hmin]
  -- At the pair of `j` the nearer sender is now taken, and the other one is shown.
  have hfst : fst g (col j) ∈ insert j T := by
    rcases fst_or_snd g j with e | e
    · exact Finset.mem_insert.mpr (Or.inl e.symm)
    · by_contra hf
      have hf' : fst g (col j) ∉ T := fun h' => hf (Finset.mem_insert_of_mem h')
      unfold cur at hc
      rw [if_neg hf'] at hc
      exact hf (by rw [hc]; exact Finset.mem_insert_self j T)
  have hcur' : cur g (insert j T) (col j) = snd g (col j) := by
    unfold cur; rw [if_pos hfst]
  have hsnd : (snd g (col j) ∈ insert j T) ↔ fst g (col j) ∈ T := by
    have hb := fst_before_snd g (col j)
    constructor
    · intro hm
      rcases Finset.mem_insert.mp hm with e | hm
      · by_contra hf
        unfold cur at hc
        rw [if_neg hf] at hc
        rw [hc, e] at hb
        exact hb.asymm hb
      · exact h.closed _ hm
    · intro hf
      unfold cur at hc
      rw [if_pos hf] at hc
      rw [hc]; exact Finset.mem_insert_self j T
  refine ⟨fun c => ?_, fun c => ?_, fun c => ?_, fun c hs => ?_⟩
  · by_cases e : c = (col j)
    · rw [(Row.pop_at _ r c ((hco c).mpr e)).1, e, hcur', h.hi, if_congr hsnd rfl rfl]
    · rw [(Row.pop_off _ r c (fun h' => e ((hco c).mp h'))).1, hcur c e, h.lo, if_congr (hmem c _ (cur_mod g T c) e) rfl rfl]
  · by_cases e : c = (col j)
    · rw [(Row.pop_at _ r c ((hco c).mpr e)).2.1, e, hcur']
    · rw [(Row.pop_off _ r c (fun h' => e ((hco c).mp h'))).2.1, hcur c e, h.co]
  · by_cases e : c = (col j)
    · rw [(Row.pop_at _ r c ((hco c).mpr e)).2.2, e, if_pos hfst]
    · rw [(Row.pop_off _ r c (fun h' => e ((hco c).mp h'))).2.2, h.hi, if_congr (hmem c _ (fst_mod g c) e) rfl rfl]
  · by_cases e : c = (col j)
    · exact e ▸ hfst
    · exact (hmem c _ (fst_mod g c) e).mpr (h.closed c ((hmem c _ (snd_mod g c) e).mp hs))

end

/-- The row as the first round finds it: the distances split in two halves, each pair put in order. -/
structure Starts (g : Fin 4096 → EReal) (r : Row) : Prop where
  lo : ∀ c, r.lo c = g (fst g c)
  co : ∀ c, r.co c = word (fst g c)
  hi : ∀ c, r.hi c = g (snd g c)

/-- The invariant holds at the start, with nothing taken. -/
theorem Starts.holds {g : Fin 4096 → EReal} {r : Row} (h : Starts g r) : Holds g ∅ r :=
  ⟨fun c => by simp [cur, h.lo], fun c => by simp [cur, h.co], fun c => by simp [h.hi], fun c hc => by simp at hc⟩

open Classical in
/-- Ten rounds take out ten senders: each is the first of those still there, and what the round shows is its distance
    and its number. -/
theorem rounds {g : Fin 4096 → EReal} {r : Row} (h : Starts g r)
    (hfin : ∀ T : Finset (Fin 4096), T.card < 10 → ∃ p, p ∉ T ∧ g p < ⊤) :
    ∃ σ : Fin 10 → Fin 4096, Selects g σ ∧ ∀ i : Fin 10,
      (r.pops (fun c => word (snd g c)) i).min = g (σ i) ∧ (r.pops (fun c => word (snd g c)) i).idx = word (σ i) := by
  have step : ∀ T : Finset (Fin 4096), T.card < 10 →
      ∃ j, j ∉ T ∧ g j < ⊤ ∧ ∀ p, p ∉ T → p ≠ j → Before g j p := by
    intro T hT
    obtain ⟨p, hp, hpf⟩ := hfin T hT
    obtain ⟨j, hj, hmin⟩ := exists_first g T ⟨p, hp⟩
    refine ⟨j, hj, ?_, hmin⟩
    by_cases e : p = j
    · exact e ▸ hpf
    · exact (hmin p hp e).le.trans_lt hpf
  choose! nxt hn hf hm using step
  let T : Nat → Finset (Fin 4096) := fun k => Nat.rec ∅ (fun _ T => insert (nxt T) T) k
  have hT : ∀ k, T (k + 1) = insert (nxt (T k)) (T k) := fun k => rfl
  have hcard : ∀ k, (T k).card ≤ k := by
    intro k
    induction k with
    | zero => exact le_of_eq Finset.card_empty
    | succ k ih => rw [hT]; exact (Finset.card_insert_le _ _).trans (by omega)
  have hlt : ∀ i : Fin 10, (T i).card < 10 := fun i => (hcard i).trans_lt i.isLt
  have hmono : ∀ a b, a ≤ b → T a ⊆ T b := by
    intro a b hab
    induction hab with
    | refl => exact Finset.Subset.refl _
    | step _ ih => exact ih.trans (by rw [hT]; exact Finset.subset_insert _ _)
  have hmem : ∀ k p, p ∈ T k ↔ ∃ a, a < k ∧ nxt (T a) = p := by
    intro k p
    induction k with
    | zero => exact ⟨fun h => absurd h (Finset.notMem_empty p), fun ⟨a, ha, _⟩ => absurd ha (by omega)⟩
    | succ k ih =>
      rw [hT, Finset.mem_insert, ih]
      constructor
      · rintro (e | ⟨a, ha, e⟩)
        · exact ⟨k, by omega, e.symm⟩
        · exact ⟨a, by omega, e⟩
      · rintro ⟨a, ha, e⟩
        rcases Nat.lt_succ_iff_lt_or_eq.mp ha with ha | rfl
        · exact Or.inr ⟨a, ha, e⟩
        · exact Or.inl e.symm
  have hholds : ∀ k, k ≤ 10 → Holds g (T k) (r.pops (fun c => word (snd g c)) k) := by
    intro k hk
    induction k with
    | zero => exact h.holds
    | succ k ih =>
      have hc : (T k).card < 10 := (hcard k).trans_lt (by omega)
      have := (ih (by omega)).pop (hn _ hc) (hf _ hc) (hm _ hc)
      rw [hT]
      exact this
  refine ⟨fun i => nxt (T i), ⟨?_, fun i => hf _ (hlt i), ?_⟩, fun i => ⟨?_, ?_⟩⟩
  · intro i j e
    by_contra hne
    rcases lt_or_gt_of_ne hne with hij | hij
    · exact hn _ (hlt j) ((hmem j _).mpr ⟨i, hij, e⟩)
    · exact hn _ (hlt i) ((hmem i _).mpr ⟨j, hij, e.symm⟩)
  · intro i p hp hne
    refine hm _ (hlt i) p (fun hin => ?_) hne
    obtain ⟨a, ha, e⟩ := (hmem i p).mp hin
    exact hp ⟨a, by omega⟩ ha e
  · exact (hholds i (by omega)).min_eq (hn _ (hlt i)) (hm _ (hlt i))
  · exact (hholds i (by omega)).idx_eq (hn _ (hlt i)) (hf _ (hlt i)) (hm _ (hlt i))

end Cert.Knn

end
-- ==== Proof.Block.lean ====
/- The kernel's block state as the rows of it: a round of the kernel on 512 rows at once is the round of each row. -/
module

public import proofs.«01_k».proof.Proof.Row
public import proofs.«01_k».proof.Proof.Gen.KernelIdeal.Skeleton
public import Idealize.ShloMosaic.Lib.Pointwise
public import Idealize.ShloMosaic.Lib.StableHlo.Predicate

@[expose] public section

set_option maxRecDepth 65536

noncomputable section

namespace Cert.Knn

open Idealize.ShloMosaic Cert.KernelIdeal Cert.KernelIdeal.Gen

/-- The state of a block of 512 rows between two rounds. -/
structure Blk where
  lo : FVec Ideal S512x2048 .f32
  co : IVec S512x2048 32
  hi : FVec Ideal S512x2048 .f32

/-- What a round shows of the least distances. -/
def Blk.min (s : Blk) : FVec Ideal S512x1 .f32 := k0_pay30 s.lo
/-- And of the senders at them. -/
def Blk.idx (s : Blk) : IVec S512x1 32 := k0_pay31 s.lo s.co
/-- A round of the kernel. -/
def Blk.pop (C : IVec S512x2048 32) (s : Blk) : Blk :=
  ⟨k0_pay33 s.lo s.co s.hi, k0_pay34 C s.lo s.co, k0_pay35 s.lo s.co s.hi⟩
/-- The state after `k` rounds. -/
def Blk.pops (C : IVec S512x2048 32) (s : Blk) : Nat → Blk
  | 0 => s
  | k + 1 => (Blk.pops C s k).pop C

/-- The least distances of a state written out. -/
theorem min_mk (lo hi : FVec Ideal S512x2048 .f32) (co : IVec S512x2048 32) : Blk.min ⟨lo, co, hi⟩ = k0_pay30 lo := rfl

/-- The senders at them, of a state written out. -/
theorem idx_mk (lo hi : FVec Ideal S512x2048 .f32) (co : IVec S512x2048 32) : Blk.idx ⟨lo, co, hi⟩ = k0_pay31 lo co := rfl

/-- A round of a state written out. -/
theorem pop_mk (C : IVec S512x2048 32) (lo hi : FVec Ideal S512x2048 .f32) (co : IVec S512x2048 32) :
    Blk.pop C ⟨lo, co, hi⟩ = ⟨k0_pay33 lo co hi, k0_pay34 C lo co, k0_pay35 lo co hi⟩ := rfl

/-- Row `p` of the state. -/
def Blk.row (s : Blk) (p : Fin 512) : Row := ⟨fun c => s.lo (ix2 p c), fun c => s.co (ix2 p c), fun c => s.hi (ix2 p c)⟩

/-- A row's front distances. -/
theorem row_lo (s : Blk) (p : Fin 512) (c : Fin 2048) : (s.row p).lo c = s.lo (ix2 p c) := rfl
/-- A row's front columns. -/
theorem row_co (s : Blk) (p : Fin 512) (c : Fin 2048) : (s.row p).co c = s.co (ix2 p c) := rfl
/-- A row's distances behind. -/
theorem row_hi (s : Blk) (p : Fin 512) (c : Fin 2048) : (s.row p).hi c = s.hi (ix2 p c) := rfl

/-- Rows are equal if their entries are. -/
theorem Row.ext_at {r r' : Row} (hlo : ∀ c, r.lo c = r'.lo c) (hco : ∀ c, r.co c = r'.co c)
    (hhi : ∀ c, r.hi c = r'.hi c) : r = r' := by
  obtain ⟨a, b, c⟩ := r
  obtain ⟨a', b', c'⟩ := r'
  rw [Row.mk.injEq]
  exact ⟨funext hlo, funext hco, funext hhi⟩

/-- The word of infinity. -/
theorem ofBits_inf : Ideal.ofBits .f32 0x7F800000#32 = (⊤ : EReal) := by
  simp [Ideal.ofBits, Ideal.ieee]

/-- A row's least distance. -/
theorem min_apply (s : Blk) (p : Fin 512) (q : Fin 1) : s.min (ix2 p q) = (s.row p).min := by
  unfold Blk.min k0_pay30
  pointwise
  rw [ofBits_inf]
  rfl

/-- A row's sender at it. -/
theorem idx_apply (s : Blk) (p : Fin 512) (q : Fin 1) : s.idx (ix2 p q) = (s.row p).idx := by
  have hm : k0_pay30 s.lo (ix2 p 0) = (s.row p).min := min_apply s p 0
  unfold Blk.idx k0_pay31
  pointwise
  rw [hm]
  unfold Row.idx
  refine congrArg (fun f => Finset.univ.fold IntOp.minsi 2147483647#32 f) (funext fun c => ?_)
  exact if_congr Iff.rfl rfl rfl

/-- A round of the block is the round of each row. -/
theorem pop_row (C : IVec S512x2048 32) (s : Blk) (p : Fin 512) :
    (s.pop C).row p = (s.row p).pop fun c => C (ix2 p c) := by
  have hi : k0_pay31 s.lo s.co (ix2 p 0) = (s.row p).idx := idx_apply s p 0
  have hp : ∀ c, k0_pay32 s.lo s.co (ix2 p c) = 1#1 ↔ (s.row p).co c = (s.row p).idx := by
    intro c
    rw [← hi]
    unfold k0_pay32
    pointwise
    exact StableHlo.Predicate.cmpi_eq_iff
  have hlo : ∀ c, (s.pop C).lo (ix2 p c) = ((s.row p).pop fun c => C (ix2 p c)).lo c := by
    intro c
    unfold Blk.pop k0_pay33
    pointwise
    simp only [Row.pop]
    exact if_congr (hp c) rfl rfl
  have hco : ∀ c, (s.pop C).co (ix2 p c) = ((s.row p).pop fun c => C (ix2 p c)).co c := by
    intro c
    unfold Blk.pop k0_pay34
    pointwise
    simp only [Row.pop]
    exact if_congr (hp c) rfl rfl
  have hhi : ∀ c, (s.pop C).hi (ix2 p c) = ((s.row p).pop fun c => C (ix2 p c)).hi c := by
    intro c
    unfold Blk.pop k0_pay35
    pointwise
    rw [ofBits_inf]
    simp only [Row.pop]
    exact if_congr (hp c) rfl rfl
  exact Row.ext_at (fun c => (row_lo _ p c).trans (hlo c)) (fun c => (row_co _ p c).trans (hco c))
    (fun c => (row_hi _ p c).trans (hhi c))

/-- And so are several. -/
theorem pops_row (C : IVec S512x2048 32) (s : Blk) (p : Fin 512) (k : Nat) :
    (s.pops C k).row p = (s.row p).pops (fun c => C (ix2 p c)) k := by
  induction k with
  | zero => rfl
  | succ k ih => rw [Blk.pops, Row.pops, pop_row, ih]

/-! ## The printed rounds are these rounds -/

section
variable (v33 : IVec S512x2048 32) (v42 : IVec S512x2048 1) (v43 v44 : FVec Ideal S512x2048 .f32)
  (v45 v50 : IVec S512x2048 32)

/-- The state the first round finds. -/
def start : Blk := ⟨v43, k0_pay10 v33 v42 v45, v44⟩

/-- The state after the first round, in the kernel's words. -/
theorem pops_one : (start v33 v42 v43 v44 v45).pops (k0_pay11 v33 v42) 1
    = ⟨k0_pay15 v33 v42 v43 v44 v45, k0_pay16 v33 v42 v43 v45, k0_pay17 v33 v42 v43 v44 v45⟩ := rfl

/-- The state after the second round. -/
theorem pops_two : (start v33 v42 v43 v44 v45).pops (k0_pay11 v33 v42) 2
    = ⟨k0_pay21 v33 v42 v43 v44 v45, k0_pay22 v33 v42 v43 v44 v45, k0_pay23 v33 v42 v43 v44 v45⟩ := by
  rw [Blk.pops, pops_one, pop_mk]; rfl

/-- The state after the third round. -/
theorem pops_three : (start v33 v42 v43 v44 v45).pops (k0_pay11 v33 v42) 3
    = ⟨k0_pay27 v33 v42 v43 v44 v45, k0_pay28 v33 v42 v43 v44 v45, k0_pay29 v33 v42 v43 v44 v45⟩ := by
  rw [Blk.pops, pops_two, pop_mk]; rfl

/-- What the first round shows. -/
theorem shown_zero : (start v33 v42 v43 v44 v45).min = k0_pay12 v43
    ∧ (start v33 v42 v43 v44 v45).idx = k0_pay13 v33 v42 v43 v45 := ⟨rfl, rfl⟩

/-- What the second round shows. -/
theorem shown_one : ((start v33 v42 v43 v44 v45).pops (k0_pay11 v33 v42) 1).min = k0_pay18 v33 v42 v43 v44 v45
    ∧ ((start v33 v42 v43 v44 v45).pops (k0_pay11 v33 v42) 1).idx = k0_pay19 v33 v42 v43 v44 v45 := by
  rw [pops_one, min_mk, idx_mk]; exact ⟨rfl, rfl⟩

/-- What the third round shows. -/
theorem shown_two : ((start v33 v42 v43 v44 v45).pops (k0_pay11 v33 v42) 2).min = k0_pay24 v33 v42 v43 v44 v45
    ∧ ((start v33 v42 v43 v44 v45).pops (k0_pay11 v33 v42) 2).idx = k0_pay25 v33 v42 v43 v44 v45 := by
  rw [pops_two, min_mk, idx_mk]; exact ⟨rfl, rfl⟩

variable (s : Blk)

/-- One round after the third, in the kernel's words. -/
theorem then_one : s.pops v50 1 = ⟨k0_pay33 s.lo s.co s.hi, k0_pay34 v50 s.lo s.co, k0_pay35 s.lo s.co s.hi⟩ := rfl

/-- Two rounds after the third. -/
theorem then_two : s.pops v50 2
    = ⟨k0_pay39 v50 s.lo s.co s.hi, k0_pay40 v50 s.lo s.co s.hi, k0_pay41 v50 s.lo s.co s.hi⟩ := by
  rw [Blk.pops, then_one, pop_mk]; rfl

/-- Three rounds after the third. -/
theorem then_three : s.pops v50 3
    = ⟨k0_pay45 v50 s.lo s.co s.hi, k0_pay46 v50 s.lo s.co s.hi, k0_pay47 v50 s.lo s.co s.hi⟩ := by
  rw [Blk.pops, then_two, pop_mk]; rfl

/-- What is shown one round after the third. -/
theorem then_shown_one : (s.pops v50 1).min = k0_pay36 s.lo s.co s.hi ∧ (s.pops v50 1).idx = k0_pay37 v50 s.lo s.co s.hi := by
  rw [then_one, min_mk, idx_mk]; exact ⟨rfl, rfl⟩

/-- What is shown two rounds after the third. -/
theorem then_shown_two : (s.pops v50 2).min = k0_pay42 v50 s.lo s.co s.hi
    ∧ (s.pops v50 2).idx = k0_pay43 v50 s.lo s.co s.hi := by
  rw [then_two, min_mk, idx_mk]; exact ⟨rfl, rfl⟩

/-- What is shown three rounds after the third. -/
theorem then_shown_three : (s.pops v50 3).min = k0_pay48 v50 s.lo s.co s.hi
    ∧ (s.pops v50 3).idx
      = k0_pay50 (k0_pay46 v50 s.lo s.co s.hi) (k0_pay49 v50 s.lo s.co s.hi) 2147483647#32 := by
  rw [then_three, min_mk, idx_mk]; exact ⟨rfl, rfl⟩

/-- The comparison the seventh round begins with. -/
def Blk.meets : IVec S512x2048 1 := cmpf .oeq s.lo (broadcastTo S512x2048 s.min broadcasts_S512x1_S512x2048)

/-- One round after the sixth, in the kernel's words. -/
theorem last_one : s.pops v50 1 = ⟨k0_pay52 s.lo s.co s.hi s.meets 2147483647#32, k0_pay53 v50 s.co s.meets 2147483647#32,
    k0_pay54 s.co s.hi s.meets 2147483647#32⟩ := rfl

/-- Two rounds after the sixth. -/
theorem last_two : s.pops v50 2 = ⟨k0_pay58 v50 s.lo s.co s.hi s.meets 2147483647#32,
    k0_pay59 v50 s.lo s.co s.hi s.meets 2147483647#32,
    select (k0_pay57 v50 s.lo s.co s.hi s.meets 2147483647#32) (broadcast S512x2048 (Scalar.ofBits .f32 0x7F800000#32))
      (k0_pay54 s.co s.hi s.meets 2147483647#32)⟩ := by
  rw [Blk.pops, last_one, pop_mk]; rfl

/-- Three rounds after the sixth. -/
theorem last_three : s.pops v50 3 = ⟨k0_pay63 v50 s.lo s.co s.hi s.meets 2147483647#32,
    select (k0_pay62 v50 s.lo s.co s.hi s.meets 2147483647#32) v50 (k0_pay59 v50 s.lo s.co s.hi s.meets 2147483647#32),
    k0_pay35 (k0_pay58 v50 s.lo s.co s.hi s.meets 2147483647#32) (k0_pay59 v50 s.lo s.co s.hi s.meets 2147483647#32)
      (select (k0_pay57 v50 s.lo s.co s.hi s.meets 2147483647#32)
        (broadcast S512x2048 (Scalar.ofBits .f32 0x7F800000#32)) (k0_pay54 s.co s.hi s.meets 2147483647#32))⟩ := by
  rw [Blk.pops, last_two, pop_mk]; rfl

/-- What is shown one round after the sixth. -/
theorem last_shown_one : (s.pops v50 1).min = k0_pay55 s.lo s.co s.hi s.meets 2147483647#32
    ∧ (s.pops v50 1).idx = k0_pay56 v50 s.lo s.co s.hi s.meets 2147483647#32 := by
  rw [last_one, min_mk, idx_mk]; exact ⟨rfl, rfl⟩

/-- What is shown two rounds after the sixth. -/
theorem last_shown_two : (s.pops v50 2).min = k0_pay60 v50 s.lo s.co s.hi s.meets 2147483647#32
    ∧ (s.pops v50 2).idx = k0_pay61 v50 s.lo s.co s.hi s.meets 2147483647#32 := by
  rw [Blk.pops, last_one, pop_mk, min_mk, idx_mk]; exact ⟨rfl, rfl⟩

/-- What is shown three rounds after the sixth. -/
theorem last_shown_three : (s.pops v50 3).min = k0_pay64 v50 s.lo s.co s.hi s.meets 2147483647#32
    ∧ (s.pops v50 3).idx = k0_pay65 v50 s.lo s.co s.hi s.meets 2147483647#32 := by
  rw [last_three, min_mk, idx_mk]; exact ⟨rfl, rfl⟩

end

end Cert.Knn

end
-- ==== Proof.Rounds.lean ====
/- The two blocks the kernel writes — the distances and the senders of 512 receivers — as the ten rounds of each row. -/
module

public import proofs.«01_k».proof.Proof.Block

@[expose] public section

set_option maxRecDepth 65536

noncomputable section

namespace Cert.Knn

open Idealize.ShloMosaic Cert.KernelIdeal Cert.KernelIdeal.Gen

/-- Rounds after rounds. -/
theorem pops_add (C : IVec S512x2048 32) (s : Blk) (a b : Nat) : s.pops C (a + b) = (s.pops C a).pops C b := by
  induction b with
  | zero => rfl
  | succ b ih => rw [← Nat.add_assoc, Blk.pops, Blk.pops, ih]

/-- Ten columns side by side. -/
def cols {α : Type} (w : Nat → S512x1.Idx → α) : S512x10.Idx → α :=
  concatenate S512x10 1 [⟨S512x1, w 0⟩, ⟨S512x1, w 1⟩, ⟨S512x1, w 2⟩, ⟨S512x1, w 3⟩, ⟨S512x1, w 4⟩, ⟨S512x1, w 5⟩,
    ⟨S512x1, w 6⟩, ⟨S512x1, w 7⟩, ⟨S512x1, w 8⟩, ⟨S512x1, w 9⟩]
    concatenates_S512x1_S512x1_S512x1_S512x1_S512x1_S512x1_S512x1_S512x1_S512x1_S512x1_S512x10_d1

/-- An entry of ten columns set side by side. -/
theorem cols_apply {α : Type} (w : Nat → S512x1.Idx → α) (p : Fin 512) (k : Fin 10) : cols w (ix2 p k) = w k (ix2 p 0) := by
  unfold cols
  fin_cases k <;> pointwise

/-- Which columns of a state written out meet its least distance. -/
theorem meets_mk (lo hi : FVec Ideal S512x2048 .f32) (co : IVec S512x2048 32) : (Blk.mk lo co hi).meets
    = cmpf .oeq lo (broadcastTo S512x2048 (k0_pay30 lo) broadcasts_S512x1_S512x2048) := rfl

/-! ## The fourth, fifth and sixth round, from the state after the third -/

section
variable {C : IVec S512x2048 32} {s : Blk} {v89 v92 : FVec Ideal S512x2048 .f32} {v90 : IVec S512x2048 32}
  (h : s.pops C 3 = ⟨v89, v90, v92⟩)
include h

/-- The state after six rounds, in the kernel's words. -/
theorem at_six : s.pops C 6 = ⟨k0_pay45 C v89 v90 v92, k0_pay46 C v89 v90 v92, k0_pay47 C v89 v90 v92⟩ := by
  rw [show 6 = 3 + 3 from rfl, pops_add, h, then_three]

/-- What the fourth round shows. -/
theorem shown_three : (s.pops C 3).min = k0_pay30 v89 ∧ (s.pops C 3).idx = k0_pay31 v89 v90 := by
  rw [h, min_mk, idx_mk]; exact ⟨rfl, rfl⟩

/-- What the fifth round shows. -/
theorem shown_four : (s.pops C 4).min = k0_pay36 v89 v90 v92 ∧ (s.pops C 4).idx = k0_pay37 C v89 v90 v92 := by
  rw [show 4 = 3 + 1 from rfl, pops_add, h]; exact then_shown_one C _

/-- What the sixth round shows. -/
theorem shown_five : (s.pops C 5).min = k0_pay42 C v89 v90 v92 ∧ (s.pops C 5).idx = k0_pay43 C v89 v90 v92 := by
  rw [show 5 = 3 + 2 from rfl, pops_add, h]; exact then_shown_two C _

/-- What the seventh round shows. -/
theorem shown_six : (s.pops C 6).min = k0_pay48 C v89 v90 v92
    ∧ (s.pops C 6).idx = k0_pay50 (k0_pay46 C v89 v90 v92) (k0_pay49 C v89 v90 v92) 2147483647#32 := by
  rw [show 6 = 3 + 3 from rfl, pops_add, h]; exact then_shown_three C _

end

/-! ## The last three, from the state after the sixth -/

section
variable {C : IVec S512x2048 32} {s : Blk} {v131 v134 : FVec Ideal S512x2048 .f32} {v132 : IVec S512x2048 32}
  {v138 : IVec S512x2048 1} (h : s.pops C 6 = ⟨v131, v132, v134⟩)
  (hm : v138 = cmpf .oeq v131 (broadcastTo S512x2048 (k0_pay30 v131) broadcasts_S512x1_S512x2048))
include h hm

/-- What the eighth round shows. -/
theorem shown_seven : (s.pops C 7).min = k0_pay55 v131 v132 v134 v138 2147483647#32
    ∧ (s.pops C 7).idx = k0_pay56 C v131 v132 v134 v138 2147483647#32 := by
  rw [show 7 = 6 + 1 from rfl, pops_add, h, hm, ← meets_mk v131 v134 v132]; exact last_shown_one C _

/-- What the ninth round shows. -/
theorem shown_eight : (s.pops C 8).min = k0_pay60 C v131 v132 v134 v138 2147483647#32
    ∧ (s.pops C 8).idx = k0_pay61 C v131 v132 v134 v138 2147483647#32 := by
  rw [show 8 = 6 + 2 from rfl, pops_add, h, hm, ← meets_mk v131 v134 v132]; exact last_shown_two C _

/-- What the tenth round shows. -/
theorem shown_nine : (s.pops C 9).min = k0_pay64 C v131 v132 v134 v138 2147483647#32
    ∧ (s.pops C 9).idx = k0_pay65 C v131 v132 v134 v138 2147483647#32 := by
  rw [show 9 = 6 + 3 from rfl, pops_add, h, hm, ← meets_mk v131 v134 v132]; exact last_shown_three C _

end

/-! ## The two blocks -/

section
variable {v33 : IVec S512x2048 32} {v42 : IVec S512x2048 1} {v43 v44 : FVec Ideal S512x2048 .f32}
  {C : IVec S512x2048 32} {s : Blk} {v89 v92 v131 v134 : FVec Ideal S512x2048 .f32} {v90 v132 : IVec S512x2048 32}
  {v138 : IVec S512x2048 1} (hC : C = k0_pay11 v33 v42) (hs : s = start v33 v42 v43 v44 k0_pay9)
  (h89 : v89 = k0_pay27 v33 v42 v43 v44 k0_pay9) (h90 : v90 = k0_pay28 v33 v42 v43 v44 k0_pay9)
  (h92 : v92 = k0_pay29 v33 v42 v43 v44 k0_pay9)
  (h131 : v131 = k0_pay45 C v89 v90 v92) (h132 : v132 = k0_pay46 C v89 v90 v92) (h134 : v134 = k0_pay47 C v89 v90 v92)
  (h138 : v138 = k0_pay49 C v89 v90 v92)
include hC hs h89 h90 h92

/-- The state after three rounds, in the kernel's words. -/
theorem at_three : s.pops C 3 = ⟨v89, v90, v92⟩ := by
  rw [hC, hs, h89, h90, h92]; exact pops_three v33 v42 v43 v44 k0_pay9

include h131 h138

/-- Which columns meet the least distance after six rounds. -/
theorem meets_six : v138 = cmpf .oeq v131 (broadcastTo S512x2048 (k0_pay30 v131) broadcasts_S512x1_S512x2048) := by
  rw [h138, h131]; rfl

include h132 h134

/-- The block of distances. -/
theorem edges_block : k0_pay66 C (k0_pay12 v43) (k0_pay18 v33 v42 v43 v44 k0_pay9) (k0_pay24 v33 v42 v43 v44 k0_pay9)
      (k0_pay30 v89) (k0_pay36 v89 v90 v92) (k0_pay42 C v89 v90 v92) v131 v132 v134 (k0_pay48 C v89 v90 v92) v138
      2147483647#32
    = sqrt (cols fun k => (s.pops C k).min) := by
  have h3 := at_three hC hs h89 h90 h92
  have h6 : s.pops C 6 = ⟨v131, v132, v134⟩ := by rw [at_six h3, h131, h132, h134]
  have hm := meets_six hC hs h89 h90 h92 h131 h138
  have e0 : s.min = k0_pay12 v43 := by rw [hs]; exact (shown_zero v33 v42 v43 v44 k0_pay9).1
  have e1 : (s.pops C 1).min = k0_pay18 v33 v42 v43 v44 k0_pay9 := by
    rw [hs, hC]; exact (shown_one v33 v42 v43 v44 k0_pay9).1
  have e2 : (s.pops C 2).min = k0_pay24 v33 v42 v43 v44 k0_pay9 := by
    rw [hs, hC]; exact (shown_two v33 v42 v43 v44 k0_pay9).1
  unfold k0_pay66 cols
  beta_reduce
  rw [e1, e2, (shown_three h3).1, (shown_four h3).1, (shown_five h3).1, (shown_six h3).1, (shown_seven h6 hm).1,
    (shown_eight h6 hm).1, (shown_nine h6 hm).1, Blk.pops, e0]

/-- The block of senders. -/
theorem senders_block : k0_pay2 (k0_pay13 v33 v42 v43 k0_pay9) (k0_pay19 v33 v42 v43 v44 k0_pay9)
      (k0_pay25 v33 v42 v43 v44 k0_pay9) (k0_pay31 v89 v90) (k0_pay37 C v89 v90 v92) (k0_pay43 C v89 v90 v92)
      (k0_pay50 v132 v138 2147483647#32) (k0_pay56 C v131 v132 v134 v138 2147483647#32)
      (k0_pay61 C v131 v132 v134 v138 2147483647#32) (k0_pay65 C v131 v132 v134 v138 2147483647#32)
    = shapeCast S1x512x10 (cols fun k => (s.pops C k).idx) shapeCasts_S512x10_S1x512x10 := by
  have h3 := at_three hC hs h89 h90 h92
  have h6 : s.pops C 6 = ⟨v131, v132, v134⟩ := by rw [at_six h3, h131, h132, h134]
  have hm := meets_six hC hs h89 h90 h92 h131 h138
  have e0 : s.idx = k0_pay13 v33 v42 v43 k0_pay9 := by rw [hs]; exact (shown_zero v33 v42 v43 v44 k0_pay9).2
  have e1 : (s.pops C 1).idx = k0_pay19 v33 v42 v43 v44 k0_pay9 := by
    rw [hs, hC]; exact (shown_one v33 v42 v43 v44 k0_pay9).2
  have e2 : (s.pops C 2).idx = k0_pay25 v33 v42 v43 v44 k0_pay9 := by
    rw [hs, hC]; exact (shown_two v33 v42 v43 v44 k0_pay9).2
  have e6 : (s.pops C 6).idx = k0_pay50 v132 v138 2147483647#32 := by rw [(shown_six h3).2, h132, h138]
  unfold k0_pay2 cols
  beta_reduce
  rw [e1, e2, (shown_three h3).2, (shown_four h3).2, (shown_five h3).2, e6, (shown_seven h6 hm).2,
    (shown_eight h6 hm).2, (shown_nine h6 hm).2, Blk.pops, e0]

end

end Cert.Knn

end
-- ==== Proof.Start.lean ====
/- The state the first round finds: the block's distances as pairs (column, column + 2048), each pair in order. -/
module

public import proofs.«01_k».proof.Proof.Rounds

@[expose] public section

set_option maxRecDepth 65536

noncomputable section

namespace Cert.Knn

open Idealize.ShloMosaic Cert.KernelIdeal Cert.KernelIdeal.Gen

variable (x0 : Vec Ideal S1x512x3 .f32) (x1 : Vec Ideal S1x3x4096 .f32) (w : BitVec 32)

/-- The columns' numbers. -/
def columns : IVec S512x2048 32 := iota .tc S512x2048 32 [1] iota_S512x2048_d1_w32

/-- The state before the first round, from the two blocks and the number of valid senders. -/
def first : Blk := start columns (k0_pay6 x0 x1 w) (k0_pay7 x0 x1 w) (k0_pay8 x0 x1 w) k0_pay9

/-- Of each pair the sender that is not shown first. -/
def others : IVec S512x2048 32 := k0_pay11 columns (k0_pay6 x0 x1 w)

/-- The distances (squared) that row `p` of a block compares: a sender of the right half that is not valid is at
    infinity. -/
def masked (p : Fin 512) (j : Fin 4096) : EReal :=
  if j.val < 2048 ∨ IntOp.cmpi .slt (word j) w = 1#1 then k0_pay3 x0 x1 (ix2 p j) else ⊤

/-- The word of a column of the right half is that of the left one and 2048. -/
theorem word_rgt (c : Fin 2048) : word (lft c) + 2048#32 = word (rgt c) := by
  unfold word lft rgt
  rw [← BitVec.ofNat_add_ofNat]

/-- The left half of the masked distances. -/
theorem pay4_apply (p : Fin 512) (c : Fin 2048) : k0_pay4 x0 x1 (ix2 p c) = masked x0 x1 w p (lft c) := by
  unfold masked
  rw [if_pos (Or.inl (show (lft c).val < 2048 from c.isLt))]
  unfold k0_pay4
  pointwise
  rfl

/-- The right half of the masked distances. -/
theorem pay5_apply (p : Fin 512) (c : Fin 2048) : k0_pay5 x0 x1 w (ix2 p c) = masked x0 x1 w p (rgt c) := by
  have hc : (⟨2048 + c.val, by omega⟩ : Fin 4096) = rgt c := Fin.ext (Nat.add_comm _ _)
  have hw : IntOp.addi (BitVec.ofNat 32 c.val) 2048#32 = word (rgt c) := word_rgt c
  have hr : ¬ (rgt c).val < 2048 := by show ¬ (c.val + 2048 < 2048); omega
  unfold k0_pay5
  pointwise
  rw [hw, hc, ofBits_inf]
  unfold masked Scalar.select
  simp only [hr, false_or]
  rfl

/-- The kernel's test of a pair: whether the right one is nearer. -/
theorem pay6_iff (p : Fin 512) (c : Fin 2048) :
    k0_pay6 x0 x1 w (ix2 p c) = 1#1 ↔ masked x0 x1 w p (rgt c) < masked x0 x1 w p (lft c) := by
  rw [← pay4_apply, ← pay5_apply]
  unfold k0_pay6
  pointwise
  rw [StableHlo.Predicate.ofBool_eq_one_iff, decide_eq_true_iff]

/-- The kernel's column numbers. -/
theorem columns_apply (p : Fin 512) (c : Fin 2048) : columns (ix2 p c) = word (lft c) := by
  unfold columns
  pointwise
  rfl

variable (p : Fin 512) (c : Fin 2048)

/-- The comparison's choice between two values is the one `fst` makes, or the one `snd` makes. -/
theorem select_iff {α : Type} (a b : α) : Scalar.select (k0_pay6 x0 x1 w (ix2 p c)) a b
    = open Classical in if masked x0 x1 w p (rgt c) < masked x0 x1 w p (lft c) then a else b := by
  unfold Scalar.select
  exact if_congr (pay6_iff x0 x1 w p c) rfl rfl

/-- At the start the front of a pair has the lesser distance. -/
theorem first_lo : (first x0 x1 w).lo (ix2 p c) = masked x0 x1 w p (fst (masked x0 x1 w p) c) := by
  show k0_pay7 x0 x1 w (ix2 p c) = _
  unfold k0_pay7
  pointwise
  rw [select_iff, pay4_apply x0 x1 w, pay5_apply]
  unfold fst
  split <;> rfl

/-- And the one behind has the greater. -/
theorem first_hi : (first x0 x1 w).hi (ix2 p c) = masked x0 x1 w p (snd (masked x0 x1 w p) c) := by
  show k0_pay8 x0 x1 w (ix2 p c) = _
  unfold k0_pay8
  pointwise
  rw [select_iff, pay4_apply x0 x1 w, pay5_apply]
  unfold snd
  split <;> rfl

/-- The column of the front one. -/
theorem first_co : (first x0 x1 w).co (ix2 p c) = word (fst (masked x0 x1 w p) c) := by
  show k0_pay10 columns (k0_pay6 x0 x1 w) k0_pay9 (ix2 p c) = _
  unfold k0_pay10 k0_pay9
  pointwise
  rw [select_iff, columns_apply, show IntOp.addi (word (lft c)) 2048#32 = word (rgt c) from word_rgt c]
  unfold fst
  split <;> rfl

/-- The column of the one behind. -/
theorem others_apply : others x0 x1 w (ix2 p c) = word (snd (masked x0 x1 w p) c) := by
  unfold others k0_pay11
  pointwise
  rw [select_iff, columns_apply, show IntOp.addi (word (lft c)) 2048#32 = word (rgt c) from word_rgt c]
  unfold snd
  split <;> rfl

/-- Row `p` of the first state holds all the senders, at the row's distances. -/
theorem first_starts : Starts (masked x0 x1 w p) ((first x0 x1 w).row p) :=
  ⟨first_lo x0 x1 w p, first_co x0 x1 w p, first_hi x0 x1 w p⟩

/-- What the kernel writes for row `p`: ten senders selected, and their distances. -/
theorem row_selects (hfin : ∀ T : Finset (Fin 4096), T.card < 10 → ∃ j, j ∉ T ∧ masked x0 x1 w p j < ⊤) :
    ∃ σ : Fin 10 → Fin 4096, Selects (masked x0 x1 w p) σ ∧ ∀ k : Fin 10,
      ((first x0 x1 w).pops (others x0 x1 w) k).min (ix2 p 0) = masked x0 x1 w p (σ k)
      ∧ ((first x0 x1 w).pops (others x0 x1 w) k).idx (ix2 p 0) = word (σ k) := by
  obtain ⟨σ, hσ, hk⟩ := rounds (first_starts x0 x1 w p) hfin
  refine ⟨σ, hσ, fun k => ?_⟩
  rw [min_apply, idx_apply, pops_row, funext (others_apply x0 x1 w p)]
  exact hk k

end Cert.Knn

end
-- ==== Proof.Dist.lean ====
/- The squared distance of two points, as the kernel and the reference both compute it. -/
module

public import proofs.«01_k».proof.Proof.Start

@[expose] public section

set_option maxRecDepth 65536

noncomputable section

namespace Cert.Knn

open Idealize.ShloMosaic Cert.KernelIdeal Cert.KernelIdeal.Gen

/-- `|r|² + |s|² − 2 r·s`, in the order of operations that both programs use. -/
def dist (r s : Fin 3 → EReal) : EReal :=
  ((∑ k, r k * r k) + ∑ k, s k * s k) - Ideal.ofBits .f32 0x40000000#32 * ∑ k, r k * s k

/-- The least distance that either program distinguishes. -/
def eps : EReal := Ideal.ofBits .f32 0x2B8CBCCC#32

/-- The kernel's squared distance of a receiver of the block and a sender, with the floor under it. -/
theorem pay3_apply (x0 : Vec Ideal S1x512x3 .f32) (x1 : Vec Ideal S1x3x4096 .f32) (p : Fin 512) (j : Fin 4096) :
    k0_pay3 x0 x1 (ix2 p j) = max (dist (fun k => x0 (ix3 0 p k)) (fun k => x1 (ix3 0 k j))) eps := by
  unfold k0_pay3
  pointwise
  unfold dist eps
  simp only [Fin.sum_univ_three]

end Cert.Knn

end
-- ==== Proof.Compare.lean ====
/- The kernel compares squared distances and puts a sender that is not valid at infinity; the reference compares
   distances and moves such a sender to a far point. For points within reach the two orders agree on the valid senders,
   and no other sender is among the first. -/
module

public import proofs.«01_k».proof.Proof.Dist

@[expose] public section

set_option maxRecDepth 65536

noncomputable section

namespace Cert.Knn

open Idealize.ShloMosaic

/-- The coordinate of the far point. -/
def far : EReal := Ideal.ofBits .f32 0x49742400#32

/-- The far point has the coordinate 1000000. -/
theorem far_eq : far = ((1000000 : ℝ) : EReal) := by
  unfold far
  simp [Ideal.ofBits, Ideal.ieee]
  rw [← EReal.coe_mul]
  norm_num

/-- The word of the literal two. -/
theorem two_eq : Ideal.ofBits .f32 0x40000000#32 = ((2 : ℝ) : EReal) := by
  simp [Ideal.ofBits, Ideal.ieee]
  rw [← EReal.coe_mul]
  norm_num

/-- The word of the bound on a coordinate. -/
theorem bound_eq : Ideal.ofBits .f32 0x48A2C2A0#32 = ((333333 : ℝ) : EReal) := by
  simp [Ideal.ofBits, Ideal.ieee]
  rw [← EReal.coe_mul]
  norm_num

/-- The floor under the squared distances is a small positive number. -/
theorem eps_eq : ∃ e : ℝ, 0 < e ∧ e < 1 ∧ eps = (e : EReal) := by
  unfold eps
  simp [Ideal.ofBits, Ideal.ieee]
  refine ⟨_, ?_, ?_, rfl⟩ <;> norm_num

/-- A coordinate within reach. -/
def Near (x : EReal) : Prop := max x (-x) ≤ Ideal.ofBits .f32 0x48A2C2A0#32

/-- A coordinate within reach is a real number of at most 333333. -/
theorem Near.real {x : EReal} (h : Near x) : ∃ a : ℝ, x = a ∧ |a| ≤ 333333 := by
  unfold Near at h
  rw [bound_eq, max_le_iff] at h
  induction x with
  | bot => exact absurd h.2 (by simp)
  | top => exact absurd h.1 (by simp)
  | coe a =>
    refine ⟨a, rfl, ?_⟩
    have h1 : a ≤ 333333 := by exact_mod_cast h.1
    have h2 : -a ≤ 333333 := by exact_mod_cast h.2
    exact abs_le.mpr ⟨by linarith, h1⟩

/-- The squared distance of real points. -/
def sq (a b : Fin 3 → ℝ) : ℝ := (a 0 - b 0) ^ 2 + (a 1 - b 1) ^ 2 + (a 2 - b 2) ^ 2

/-- On real points the squared distance, as both programs write it out, is the usual one. -/
theorem dist_real (a b : Fin 3 → ℝ) : dist (fun k => (a k : EReal)) (fun k => (b k : EReal)) = ((sq a b : ℝ) : EReal) := by
  unfold dist sq
  rw [two_eq]
  simp only [Fin.sum_univ_three]
  norm_cast
  ring

/-- On a real number that is not negative, the square root is the usual one. -/
theorem sqrt_real {x : ℝ} (h : 0 ≤ x) : Ideal.sqrt (x : EReal) = (Real.sqrt x : EReal) := by
  rw [Ideal.sqrt_coe, if_neg (not_lt.mpr h)]

/-- A squared distance is not negative. -/
theorem sq_nonneg' (a b : Fin 3 → ℝ) : 0 ≤ sq a b := by unfold sq; positivity

/-- Two points within reach are nearer to each other than either is to the far point. -/
theorem sq_near (a b : Fin 3 → ℝ) (ha : ∀ k, |a k| ≤ 333333) (hb : ∀ k, |b k| ≤ 333333) :
    sq a b + 1 < sq a (fun _ => 1000000) := by
  have h : ∀ k, (a k - b k) ^ 2 + 1 < (a k - 1000000) ^ 2 := by
    intro k
    obtain ⟨a1, a2⟩ := abs_le.mp (ha k)
    obtain ⟨b1, b2⟩ := abs_le.mp (hb k)
    have h1 : |a k - b k| ≤ 666666 := abs_le.mpr ⟨by linarith, by linarith⟩
    have h2 : (a k - b k) ^ 2 ≤ 666666 ^ 2 := sq_le_sq' (by linarith [(abs_le.mp h1).1]) (abs_le.mp h1).2
    have h3 : (666667 : ℝ) ^ 2 ≤ (1000000 - a k) ^ 2 := by
      apply pow_le_pow_left₀ <;> linarith
    have h4 : (a k - 1000000) ^ 2 = (1000000 - a k) ^ 2 := by ring
    rw [h4]
    norm_num at h2 h3 ⊢
    linarith
  unfold sq
  linarith [h 0, h 1, h 2]

/-- The kernel's squared distance at a sender, and the reference's distance there. -/
def kernelDist (r s : Fin 3 → EReal) : EReal := max (dist r s) eps
/-- The distance of two points, as the reference has it. -/
def referenceDist (r s : Fin 3 → EReal) : EReal := Ideal.sqrt (max (dist r s) eps)

section
variable {n : Nat} (valid : Fin n → Prop) [DecidablePred valid] (r : Fin 3 → EReal) (s : Fin n → Fin 3 → EReal)

/-- The distances that the kernel sorts by. -/
def byKernel (j : Fin n) : EReal := if valid j then kernelDist r (s j) else ⊤
/-- The distances that the reference sorts by. -/
def byReference (j : Fin n) : EReal := referenceDist r (if valid j then s j else fun _ => far)

variable {r s} (hr : ∀ k, Near (r k)) (hs : ∀ j k, Near (s j k))
include hr hs

/-- The two distances over the reals. -/
theorem real_dist : ∃ (d : Fin n → ℝ) (D : ℝ), (∀ j, 0 ≤ d j) ∧ (∀ j, d j < D) ∧ (∀ j, kernelDist r (s j) = (d j : EReal))
    ∧ (∀ j, valid j → byReference valid r s j = (Real.sqrt (d j) : EReal))
    ∧ (∀ j, ¬ valid j → byReference valid r s j = (Real.sqrt D : EReal)) := by
  choose a ha ha' using fun k => (hr k).real
  choose b hb hb' using fun j k => (hs j k).real
  obtain ⟨e, he, he1, hee⟩ := eps_eq
  have hra : r = fun k => (a k : EReal) := funext ha
  have hsb : ∀ j, s j = fun k => (b j k : EReal) := fun j => funext (hb j)
  have hd : ∀ j, kernelDist r (s j) = ((max (sq a (b j)) e : ℝ) : EReal) := by
    intro j
    unfold kernelDist
    rw [hsb j, hra, dist_real, hee]
    exact (EReal.coe_strictMono.monotone.map_max).symm
  have hD : max (dist r fun _ => far) eps = ((max (sq a fun _ => 1000000) e : ℝ) : EReal) := by
    rw [far_eq, hra, dist_real a (fun _ => 1000000), hee]
    exact (EReal.coe_strictMono.monotone.map_max).symm
  refine ⟨fun j => max (sq a (b j)) e, max (sq a fun _ => 1000000) e, fun j => le_max_of_le_right he.le, fun j => ?_, hd,
    fun j hj => ?_, fun j hj => ?_⟩
  · have := sq_near a (b j) ha' (hb' j)
    have h0 := sq_nonneg' a (b j)
    exact max_lt (lt_max_of_lt_left (by linarith)) (lt_max_of_lt_left (by linarith))
  · unfold byReference referenceDist
    rw [if_pos hj]
    have := hd j
    unfold kernelDist at this
    rw [this, sqrt_real (le_max_of_le_right he.le)]
  · unfold byReference referenceDist
    rw [if_neg hj, hD, sqrt_real (le_max_of_le_right he.le)]

/-- A valid sender's distance is finite. -/
theorem byKernel_lt_top {j : Fin n} (hj : valid j) : byKernel valid r s j < ⊤ := by
  obtain ⟨d, D, hd, hD, hk, _, _⟩ := real_dist valid hr hs
  unfold byKernel
  rw [if_pos hj, hk]
  exact EReal.coe_lt_top _

/-- A sender at a finite distance is valid. -/
theorem valid_of_lt_top {j : Fin n} (hj : byKernel valid r s j < ⊤) : valid j := by
  by_contra h
  unfold byKernel at hj
  rw [if_neg h] at hj
  exact lt_irrefl _ hj

/-- What the kernel selects, the reference's order puts first. -/
theorem before_reference {k : Nat} {σ : Fin k → Fin n} (h : Selects (byKernel valid r s) σ) (i : Fin k) (p : Fin n)
    (hp : ∀ j, j < i → σ j ≠ p) (hne : p ≠ σ i) : Before (byReference valid r s) (σ i) p := by
  obtain ⟨d, D, hd, hD, hk, hv, hn⟩ := real_dist valid hr hs
  have hi := valid_of_lt_top valid hr hs (h.finite i)
  have hb := h.first i p hp hne
  unfold Before
  rw [hv _ hi]
  by_cases hpv : valid p
  · rw [hv _ hpv]
    unfold Before byKernel at hb
    rw [if_pos hi, if_pos hpv, hk, hk] at hb
    rcases hb with hb | ⟨hb, hlt⟩
    · exact Or.inl (EReal.coe_lt_coe_iff.mpr (Real.sqrt_lt_sqrt (hd _) (EReal.coe_lt_coe_iff.mp hb)))
    · exact Or.inr ⟨by rw [EReal.coe_eq_coe_iff.mp hb], hlt⟩
  · rw [hn _ hpv]
    exact Or.inl (EReal.coe_lt_coe_iff.mpr (Real.sqrt_lt_sqrt (hd _) (hD _)))

/-- So the first positions of the reference's sort are the kernel's selection, -/
theorem reference_sorted {k : Nat} (hk : k ≤ n) {σ : Fin k → Fin n} (h : Selects (byKernel valid r s) σ)
    (B : Fin n → Fin n → Bool) (hB : ∀ a b, B a b = true ↔ byReference valid r s a < byReference valid r s b) (i : Fin k) :
    sortedFrom B (i.castLE hk) = σ i :=
  sortedFrom_eq hk (byReference valid r s) B hB σ h.inj (before_reference valid hr hs h) i

/-- and the distance there is the root of the one the kernel shows. -/
theorem reference_dist {k : Nat} {σ : Fin k → Fin n} (h : Selects (byKernel valid r s) σ) (i : Fin k) :
    Ideal.sqrt (byKernel valid r s (σ i)) = byReference valid r s (σ i) := by
  obtain ⟨d, D, hd, hD, hk, hv, hn⟩ := real_dist valid hr hs
  have hi := valid_of_lt_top valid hr hs (h.finite i)
  rw [hv _ hi]
  unfold byKernel
  rw [if_pos hi, hk, sqrt_real (hd _)]

end

end Cert.Knn

end
-- ==== Proof.Model.lean ====
/- What both programs compute for one receiver: its ten nearest valid senders, nearest first. -/
module

public import proofs.«01_k».proof.Proof.Compare

@[expose] public section

set_option maxRecDepth 65536

noncomputable section

namespace Cert.Knn

open Idealize.ShloMosaic Cert.KernelIdeal Cert.KernelIdeal.Gen

/-- The `k`-th nearest sender, for the distances `g`: the lesser sender first among equally near ones. -/
def nearest (g : Fin 4096 → EReal) (k : Fin 10) : Fin 4096 :=
  sortedFrom (fun a b => decide (g a < g b)) (k.castLE (by decide))

/-- A selection is unique: any one is `nearest`. -/
theorem nearest_eq {g : Fin 4096 → EReal} {σ : Fin 10 → Fin 4096} (h : Selects g σ) : nearest g = σ :=
  funext fun k => sortedFrom_eq (by decide) g _ (fun _ _ => decide_eq_true_iff) σ h.inj h.first k

/-- Sender `j` is among the first `w`. -/
def Valid (w : BitVec 32) (j : Fin 4096) : Prop := IntOp.cmpi .slt (word j) w = 1#1

instance (w : BitVec 32) : DecidablePred (Valid w) := fun _ => inferInstanceAs (Decidable (_ = _))

/-- With 2048 valid senders at least, each of the first 2048 is valid. -/
theorem valid_left {w : BitVec 32} (hw : 2048 ≤ w.toInt) (j : Fin 4096) (hj : j.val < 2048) : Valid w j := by
  have := word_toInt j
  unfold Valid
  simp only [IntOp.cmpi, BitVec.slt, this]
  rw [decide_eq_true (by omega)]
  rfl

/-- The distances of a receiver at `r` from the senders at `s`, of which the first `w` are valid. -/
def gap (w : BitVec 32) (r : Fin 3 → EReal) (s : Fin 4096 → Fin 3 → EReal) : Fin 4096 → EReal :=
  byKernel (Valid w) r s

/-- With 2048 valid senders at least, masking the right half alone masks all that are not valid. -/
theorem masked_eq (x0 : Vec Ideal S1x512x3 .f32) (x1 : Vec Ideal S1x3x4096 .f32) (w : BitVec 32) (hw : 2048 ≤ w.toInt)
    (p : Fin 512) : masked x0 x1 w p = gap w (fun d => x0 (ix3 0 p d)) (fun j d => x1 (ix3 0 d j)) := by
  funext j
  have e : (j.val < 2048 ∨ IntOp.cmpi .slt (word j) w = 1#1) ↔ Valid w j :=
    ⟨fun h => h.elim (valid_left hw j) id, Or.inr⟩
  unfold masked gap byKernel kernelDist
  rw [pay3_apply]
  by_cases h : Valid w j
  · rw [if_pos (e.mpr h), if_pos h]
  · rw [if_neg (fun h' => h (e.mp h')), if_neg h]

/-- Any nine of the first 2048 senders leave one. -/
theorem left_over (T : Finset (Fin 4096)) (hT : T.card < 10) : ∃ j : Fin 4096, j ∉ T ∧ j.val < 2048 := by
  classical
  by_contra hc
  push Not at hc
  have hsub : (Finset.univ.image lft) ⊆ T := by
    intro j hj
    obtain ⟨c, -, rfl⟩ := Finset.mem_image.mp hj
    by_contra hn
    exact absurd (hc _ hn) (by simp [lft])
  have := Finset.card_le_card hsub
  rw [Finset.card_image_of_injective _ (fun a b h => Fin.ext (by simpa [lft] using h))] at this
  simp at this
  omega

section
variable (x0 : Vec Ideal S1x512x3 .f32) (x1 : Vec Ideal S1x3x4096 .f32) (w : BitVec 32) (hw : 2048 ≤ w.toInt) (p : Fin 512)
  (hr : ∀ d, Near (x0 (ix3 0 p d))) (hs : ∀ j d, Near (x1 (ix3 0 d j)))

include hw hr hs in
/-- The ten rounds of the kernel show a selection from the masked squared distances, for each row of the block. -/
theorem block_selects : ∃ σ, Selects (gap w (fun d => x0 (ix3 0 p d)) (fun j d => x1 (ix3 0 d j))) σ ∧
    ∀ k : Fin 10, ((first x0 x1 w).pops (others x0 x1 w) k).min (ix2 p 0)
        = gap w (fun d => x0 (ix3 0 p d)) (fun j d => x1 (ix3 0 d j)) (σ k)
      ∧ ((first x0 x1 w).pops (others x0 x1 w) k).idx (ix2 p 0) = word (σ k) := by
  rw [← masked_eq x0 x1 w hw p]
  refine row_selects x0 x1 w p fun T hT => ?_
  obtain ⟨j, hj, hl⟩ := left_over T hT
  refine ⟨j, hj, ?_⟩
  rw [masked_eq x0 x1 w hw p]
  exact byKernel_lt_top (Valid w) hr hs (valid_left hw j hl)

include hw hr hs in
/-- The kernel's `k`-th round finds the `k`-th nearest sender. -/
theorem block_nearest (k : Fin 10) :
    ((first x0 x1 w).pops (others x0 x1 w) k).min (ix2 p 0)
        = gap w (fun d => x0 (ix3 0 p d)) (fun j d => x1 (ix3 0 d j)) (nearest (gap w (fun d => x0 (ix3 0 p d)) (fun j d => x1 (ix3 0 d j))) k)
      ∧ ((first x0 x1 w).pops (others x0 x1 w) k).idx (ix2 p 0)
        = word (nearest (gap w (fun d => x0 (ix3 0 p d)) (fun j d => x1 (ix3 0 d j))) k) := by
  obtain ⟨σ, h, e⟩ := block_selects x0 x1 w hw p hr hs
  rw [nearest_eq h]
  exact e k
end

/-- A receiver and senders near the origin: the receiver has ten nearest valid senders. -/
theorem gap_selects {w : BitVec 32} (hw : 2048 ≤ w.toInt) {r : Fin 3 → EReal} {s : Fin 4096 → Fin 3 → EReal}
    (hr : ∀ d, Near (r d)) (hs : ∀ j d, Near (s j d)) : Selects (gap w r s) (nearest (gap w r s)) := by
  obtain ⟨σ, h, -⟩ := block_selects (fun z => r (z 2)) (fun z => s (z 2) (z 1)) w hw 0 hr (fun j d => hs j d)
  have h' : Selects (gap w r s) σ := h
  rw [nearest_eq h']
  exact h'

end Cert.Knn

end
-- ==== Proof.Take.lean ====
/- The reference's distances, read at an index, for any number of receivers. -/
module

public import proofs.«01_k».proof.Proof.Compare
public import proofs.«01_k».proof.Proof.Gen.ReferenceIdeal.Run
public import Idealize.ShloMosaic.Lib.Pointwise

@[expose] public section

set_option maxRecDepth 65536

noncomputable section

namespace Cert.Knn.Reference

open Idealize.ShloMosaic Cert.ReferenceIdeal Cert.ReferenceIdeal.Facts₀

section
variable [Facts₀] (A : FVec Ideal S4x4096x3 .f32) (L : IVec S4 32)

/-- The senders, those that are not valid at the far point. -/
def send : FVec Ideal S4x4096x3 .f32 :=
  select (broadcastInDim S4x4096x3 ![0, 1, 2] bcast_S4x4096x1_S4x4096x3_0_1_2 (broadcastInDim S4x4096x1 ![0, 1] bcast_S4x4096_S4x4096x1_0_1 (cmpi .slt (broadcastInDim S4x4096 ![0, 1] bcast_S1x4096_S4x4096_0_1 (broadcastInDim S1x4096 ![1] bcast_S4096_S1x4096_1 (iotaInDim S4096 32 0))) (broadcastInDim S4x4096 ![0, 1] bcast_S4x1_S4x4096_0_1 (broadcastInDim S4x1 ![0] bcast_S4_S4x1_0 L))))) A (broadcastInDim S4x4096x3 ![] bcast_S_S4x4096x3 (id (constant S_ .f32 0x49742400#32)))

/-- A sender, or the far point if it is not valid. -/
theorem send_apply (b : Fin 4) (j : Fin 4096) (d : Fin 3) : send A L (ix3 b j d)
    = if IntOp.cmpi .slt (word j) (L (ix1 b)) = 1#1 then A (ix3 b j d) else far := by
  unfold send
  pointwise
  rfl
end

/-! ## For any number of receivers -/

section
variable {N : Nat} (hN : N = 4096 ∨ N = 1024) (R : FVec Ideal ⟨3, ![4, N, 3]⟩ .f32) (S : FVec Ideal S4x4096x3 .f32)

variable (h1 : (⟨3, ![4, N, 3]⟩ : Shape).ReducesTo [2] ⟨2, ![4, N]⟩) (h2 : 0 < S_.numel)
  (h3 : (⟨2, ![4, N]⟩ : Shape).BroadcastsInDim ⟨3, ![4, N, 1]⟩ (![0, 1] : Fin 2 → Fin 3))
  (h4 : (⟨3, ![4, N, 1]⟩ : Shape).BroadcastsInDim ⟨3, ![4, N, 4096]⟩ (![0, 1, 2] : Fin 3 → Fin 3))
  (h5 : S4x4096x3.ReducesTo [2] S4x4096)
  (h6 : S4x4096.BroadcastsInDim S4x1x4096 (![0, 2] : Fin 2 → Fin 3))
  (h7 : S4x1x4096.BroadcastsInDim ⟨3, ![4, N, 4096]⟩ (![0, 1, 2] : Fin 3 → Fin 3))
  (h8 : S_.BroadcastsInDim ⟨3, ![4, N, 4096]⟩ (![] : Fin 0 → Fin 3))
  (h9 : DotDims.WF ⟨3, ![4, N, 3]⟩ S4x3x4096 ⟨3, ![4, N, 4096]⟩ [2] [1] [1] [2] [0] [0])
  (h10 : S4x4096x3.Transposes [0, 2, 1] S4x3x4096)

/-- The distances of all receivers from all senders. -/
def distances : FVec Ideal ⟨3, ![4, N, 4096]⟩ .f32 :=
  Host.sqrt (maximumf (subf (addf (broadcastInDim ⟨3, ![4, N, 4096]⟩ ![0, 1, 2] h4 (broadcastInDim ⟨3, ![4, N, 1]⟩ ![0, 1] h3 (Host.reduceAdd (mulf R R) (constant S_ .f32 0x00000000#32) h1 h2))) (broadcastInDim ⟨3, ![4, N, 4096]⟩ ![0, 1, 2] h7 (broadcastInDim S4x1x4096 ![0, 2] h6 (Host.reduceAdd (mulf S S) (constant S_ .f32 0x00000000#32) h5 h2)))) (mulf (broadcastInDim ⟨3, ![4, N, 4096]⟩ ![] h8 (constant S_ .f32 0x40000000#32)) (Host.dotGeneral (⟨[2], [1], [1], [2], [0], [0], h9⟩ : DotDims ⟨3, ![4, N, 3]⟩ S4x3x4096 ⟨3, ![4, N, 4096]⟩) none R (transpose S4x3x4096 [0, 2, 1] S h10)))) (broadcastInDim ⟨3, ![4, N, 4096]⟩ ![] h8 (constant S_ .f32 0x2B8CBCCC#32)))

include hN in
/-- A distance of the reference's matrix of them. -/
theorem distances_apply (b : Fin 4) (q : Fin N) (j : Fin 4096) :
    distances R S h1 h2 h3 h4 h5 h6 h7 h8 h9 h10 (ix3 b q j)
      = referenceDist (fun d => R (ix3 b q d)) (fun d => S (ix3 b j d)) := by
  rcases hN with rfl | rfl <;>
  · unfold distances referenceDist
    pointwise
    rfl
end

/-! ## The sort of one receiver's senders by distance -/

section
variable {N : Nat} (hN : N = 4096 ∨ N = 1024) (D : FVec Ideal ⟨3, ![4, N, 4096]⟩ .f32)
  (h : (⟨2, ![N, 4096]⟩ : Shape).BroadcastsInDim ⟨3, ![4, N, 4096]⟩ (![1, 2] : Fin 2 → Fin 3))

/-- Each receiver's senders, sorted by distance. -/
def sorted : IVec ⟨3, ![4, N, 4096]⟩ 32 :=
  (Host.sort2 ⟨3, ![4, N, 4096]⟩ 2 comparator_f32_i32_d2 D
    (broadcastInDim ⟨3, ![4, N, 4096]⟩ ![1, 2] h (iotaInDim ⟨2, ![N, 4096]⟩ 32 1))).2

omit hN in
/-- The sort compares the distances alone. -/
theorem comparator_iff (x y : EReal) (v w : BitVec 32) :
    (comparator_f32_i32_d2 (F := Ideal) (x, v) (y, w) == 1#1) = true ↔ x < y := by
  have key (z : EReal) : Scalar.select (Ideal.cmp .oeq z (Ideal.ofBits .f32 0x00000000#32))
      (Ideal.ofBits .f32 0x00000000#32) z = z := by
    by_cases hz : z = 0 <;> simp [Scalar.select, Ideal.cmp, hz]
  have une (z u : EReal) : Scalar.select (Ideal.cmp .une z z) u
      (Scalar.select (Ideal.cmp .oeq z (Ideal.ofBits .f32 0x00000000#32)) (Ideal.ofBits .f32 0x00000000#32) z) = z := by
    rw [key]; simp [Scalar.select, Ideal.cmp]
  show (Ideal.cmp .olt (Scalar.select _ _ _) (Scalar.select _ _ _) == 1#1) = true ↔ x < y
  have e : (Ideal.cmp .olt x y == 1#1) = true ↔ x < y := by
    by_cases hz : x < y <;> simp [Ideal.cmp, hz]
  exact (iff_of_eq (congrArg₂ (fun a b => (Ideal.cmp .olt a b == 1#1) = true) (une x _) (une y _))).trans e

/-- The last coordinate replaced. -/
theorem along_ix3 {n0 n1 n2 : Nat} (b : Fin n0) (q : Fin n1) (j k : Fin n2) :
    Shape.Idx.along (s := ⟨3, ![n0, n1, n2]⟩) (ix3 b q j) 2 k = ix3 b q k := by
  funext a
  match a with
  | ⟨0, _⟩ => rfl
  | ⟨1, _⟩ => rfl
  | ⟨2, _⟩ => rfl

include hN in
/-- A row of sorted indices is the row's columns, sorted stably by the distance. -/
theorem sorted_apply (b : Fin 4) (q : Fin N) (j : Fin 4096) :
    ∃ B : Fin 4096 → Fin 4096 → Bool, (∀ i k, B i k = true ↔ D (ix3 b q i) < D (ix3 b q k)) ∧
      sorted D h (ix3 b q j) = word (sortedFrom B j) := by
  let Y : IVec ⟨3, ![4, N, 4096]⟩ 32 := broadcastInDim ⟨3, ![4, N, 4096]⟩ ![1, 2] h (iotaInDim ⟨2, ![N, 4096]⟩ 32 1)
  have hY (k : Fin 4096) : Y (ix3 b q k) = word k := by
    rcases hN with rfl | rfl <;>
    · show (broadcastInDim _ _ _ _ : IVec _ 32) (ix3 b q k) = _
      pointwise
      rfl
  let x := fun k : Fin 4096 => (D (Shape.Idx.along (s := ⟨3, ![4, N, 4096]⟩) (ix3 b q j) 2 k),
    Y (Shape.Idx.along (s := ⟨3, ![4, N, 4096]⟩) (ix3 b q j) 2 k))
  refine ⟨fun k k' => comparator_f32_i32_d2 (F := Ideal) (x k) (x k') == 1#1, fun i k => ?_, ?_⟩
  · refine (comparator_iff _ _ _ _).trans ?_
    rw [along_ix3, along_ix3]
  · exact (congrArg Y (along_ix3 b q j
      (sortedFrom (fun k k' => comparator_f32_i32_d2 (F := Ideal) (x k) (x k') == 1#1) j))).trans (hY _)
end

/-! ## The distances taken at the sorted senders -/

section
open ValueIdx (takeIdx)
variable {α : Type}

/-- The dimensions of the gather that takes, for each receiver, the distances at given senders. -/
abbrev takeDims (N : Nat)
    (wf : GatherDims.WF ⟨3, ![4, N, 4096]⟩ ⟨4, ![4, N, 4096, 1]⟩ ⟨3, ![4, N, 4096]⟩ [] [2] [0, 1] [2] [0, 1] 3 ![1, 1, 1]) :
    GatherDims ⟨3, ![4, N, 4096]⟩ ⟨4, ![4, N, 4096, 1]⟩ ⟨3, ![4, N, 4096]⟩ where
  offsetDims := []
  collapsedSliceDims := [2]
  operandBatchingDims := [0, 1]
  startIndicesBatchingDims := [0, 1]
  startIndexMap := [2]
  indexVectorDim := 3
  sliceSizes := ![1, 1, 1]
  wf := wf

/-- An entry taken along the last axis, at an index within range. -/
theorem take_apply {N : Nat}
    (wf : GatherDims.WF ⟨3, ![4, N, 4096]⟩ ⟨4, ![4, N, 4096, 1]⟩ ⟨3, ![4, N, 4096]⟩ [] [2] [0, 1] [2] [0, 1] 3 ![1, 1, 1])
    (x : (⟨3, ![4, N, 4096]⟩ : Shape).Idx → α) (idx : IVec ⟨4, ![4, N, 4096, 1]⟩ 32)
    (b : Fin 4) (q : Fin N) (j s : Fin 4096) (hs : idx (ix4 b q j 0) = word s) :
    Host.gather (takeDims N wf) x idx (ix3 b q j) = x (ix3 b q s) := by
  unfold Host.gather
  congr 1
  funext a
  refine Fin.ext ?_
  show (takeDims N wf).start (ix3 b q j) idx a + (takeDims N wf).batchCoord (ix3 b q j) a
      + (takeDims N wf).offCoord (ix3 b q j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  rotate_left 2
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (takeDims N wf).startIndexMap from List.mem_singleton.mpr rfl)]
    have hsi : (takeDims N wf).siIdx (ix3 b q j) ⟨List.idxOf (2 : Fin 3) (takeDims N wf).startIndexMap,
        List.idxOf_lt_length_iff.2 (List.mem_singleton.mpr rfl)⟩ = ix4 b q j 0 := by
      funext b; refine Fin.ext ?_
      match b with
      | ⟨0, _⟩ => rfl
      | ⟨1, _⟩ => rfl
      | ⟨2, _⟩ => rfl
      | ⟨3, _⟩ => rfl
    rw [hsi, hs, word_toInt]
    show min s.val (4096 - 1) = s.val
    omega
  all_goals
    rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
end

section
variable {N : Nat} (hN : N = 4096 ∨ N = 1024) (D : FVec Ideal ⟨3, ![4, N, 4096]⟩ .f32)
  (W : IVec ⟨3, ![4, N, 4096]⟩ 32)
  (h1 : (⟨3, ![4, N, 4096]⟩ : Shape).ShapeCasts ⟨4, ![4, N, 4096, 1]⟩)
  (h2 : S_.BroadcastsInDim ⟨3, ![4, N, 4096]⟩ (![] : Fin 0 → Fin 3))
  (h3 : S_.BroadcastsInDim ⟨4, ![4, N, 4096, 1]⟩ (![] : Fin 0 → Fin 4))
  (h4 : S1x1x1x1.BroadcastsInDim ⟨4, ![4, N, 4096, 1]⟩ (![0, 1, 2, 3] : Fin 4 → Fin 4))
  (h5 : S1.BroadcastsInDim S1x1x1x1 (![3] : Fin 1 → Fin 4))
  (h6 : (⟨4, ![4, N, 4096, 1]⟩ : Shape).ReducesTo [3] ⟨3, ![4, N, 4096]⟩) (h7 : 0 < S_.numel)
  (h8 : GatherDims.WF ⟨3, ![4, N, 4096]⟩ ⟨4, ![4, N, 4096, 1]⟩ ⟨3, ![4, N, 4096]⟩ [] [2] [0, 1] [2] [0, 1] 3 ![1, 1, 1])

/-- The sender numbers as the gather reads them: those below zero count from the end. -/
def wrapped : IVec ⟨4, ![4, N, 4096, 1]⟩ 32 :=
  shapeCast _ (select (cmpi .slt W (broadcastInDim ⟨3, ![4, N, 4096]⟩ ![] h2 (constantI S_ 32 0#32)))
    (addi W (broadcastInDim ⟨3, ![4, N, 4096]⟩ ![] h2 (constantI S_ 32 4096#32))) W) h1

/-- The distances at the given senders, with a filler for a number that is no sender's. -/
def taken : FVec Ideal ⟨3, ![4, N, 4096]⟩ .f32 :=
  select (Host.reduce IntOp.andi (andi (cmpi .sge (wrapped W h1 h2) (broadcastInDim ⟨4, ![4, N, 4096, 1]⟩ ![] h3 (constantI S_ 32 0#32)))
      (cmpi .sle (wrapped W h1 h2) (broadcastInDim ⟨4, ![4, N, 4096, 1]⟩ ![0, 1, 2, 3] h4 (broadcastInDim S1x1x1x1 ![3] h5 (constantI S1 32 4095#32)))))
      (constantI S_ 1 1#1) h6 h7)
    (Host.gather (takeDims N h8) D (wrapped W h1 h2))
    (broadcastInDim ⟨3, ![4, N, 4096]⟩ ![] h2 (constant S_ .f32 0x7FC00000#32))

omit hN h1 h2 in
/-- The word of a column lies within range. -/
theorem word_inside (s : Fin 4096) : IntOp.cmpi .slt (word s) 0#32 = 0#1 ∧ IntOp.cmpi .sge (word s) 0#32 = 1#1
    ∧ IntOp.cmpi .sle (word s) 4095#32 = 1#1 := by
  have := word_toInt s
  have hs := s.isLt
  refine ⟨?_, ?_, ?_⟩ <;> simp [IntOp.cmpi, BitVec.slt, BitVec.sle, this]
  · rw [decide_eq_false (by omega)]; rfl
  · rw [decide_eq_true (by omega)]; rfl

include hN in
/-- A column is not negative, so it is not wrapped around. -/
theorem wrapped_apply (b : Fin 4) (q : Fin N) (j s : Fin 4096) (hs : W (ix3 b q j) = word s) :
    wrapped W h1 h2 (ix4 b q j 0) = word s := by
  rcases hN with rfl | rfl <;>
  · unfold wrapped
    pointwise
    rw [hs, (word_inside s).1]
    rfl

include hN in
/-- So what is taken is the entry at that column. -/
theorem taken_apply (b : Fin 4) (q : Fin N) (j s : Fin 4096) (hs : W (ix3 b q j) = word s) :
    taken D W h1 h2 h3 h4 h5 h6 h7 h8 (ix3 b q j) = D (ix3 b q s) := by
  have e := take_apply h8 D _ b q j s (wrapped_apply hN W h1 h2 b q j s hs)
  have w := wrapped_apply hN W h1 h2 b q j s hs
  rcases hN with rfl | rfl <;>
  · unfold taken
    generalize wrapped W h1 h2 = X at *
    pointwise
    rw [e, Finset.univ_unique, Finset.fold_singleton, Fin.default_eq_zero, w, (word_inside s).2.1, (word_inside s).2.2]
    rfl
end

end Cert.Knn.Reference

end
-- ==== Proof.Half.lean ====
/- The results of the kernel's host program and of the reference for one group of receivers, element by element. -/
module

public import proofs.«01_k».proof.Proof.Model
public import proofs.«01_k».proof.Proof.Take

@[expose] public section

set_option maxRecDepth 65536

noncomputable section

namespace Cert.Knn.Reference

open Idealize.ShloMosaic Cert.ReferenceIdeal Cert.ReferenceIdeal.Facts₀

section
variable [Facts₀] {N : Nat} (hN : N = 4096 ∨ N = 1024) (R : FVec Ideal ⟨3, ![4, N, 3]⟩ .f32)
  (A : FVec Ideal S4x4096x3 .f32) (L : IVec S4 32)

/-- The distances of one receiver from the valid senders. -/
def gaps (b : Fin 4) (q : Fin N) : Fin 4096 → EReal :=
  gap (L (ix1 b)) (fun d => R (ix3 b q d)) (fun j d => A (ix3 b j d))

variable (hR : ∀ i, Near (R i)) (hA : ∀ i, Near (A i)) (hL : ∀ i, 2048 ≤ (L i).toInt)
  (h1 : (⟨3, ![4, N, 3]⟩ : Shape).ReducesTo [2] ⟨2, ![4, N]⟩) (h2 : 0 < S_.numel)
  (h3 : (⟨2, ![4, N]⟩ : Shape).BroadcastsInDim ⟨3, ![4, N, 1]⟩ (![0, 1] : Fin 2 → Fin 3))
  (h4 : (⟨3, ![4, N, 1]⟩ : Shape).BroadcastsInDim ⟨3, ![4, N, 4096]⟩ (![0, 1, 2] : Fin 3 → Fin 3))
  (h5 : S4x4096x3.ReducesTo [2] S4x4096)
  (h6 : S4x4096.BroadcastsInDim S4x1x4096 (![0, 2] : Fin 2 → Fin 3))
  (h7 : S4x1x4096.BroadcastsInDim ⟨3, ![4, N, 4096]⟩ (![0, 1, 2] : Fin 3 → Fin 3))
  (h8 : S_.BroadcastsInDim ⟨3, ![4, N, 4096]⟩ (![] : Fin 0 → Fin 3))
  (h9 : DotDims.WF ⟨3, ![4, N, 3]⟩ S4x3x4096 ⟨3, ![4, N, 4096]⟩ [2] [1] [1] [2] [0] [0])
  (h10 : S4x4096x3.Transposes [0, 2, 1] S4x3x4096)
  (h11 : (⟨2, ![N, 4096]⟩ : Shape).BroadcastsInDim ⟨3, ![4, N, 4096]⟩ (![1, 2] : Fin 2 → Fin 3))
  (h12 : (⟨3, ![4, N, 4096]⟩ : Shape).ShapeCasts ⟨4, ![4, N, 4096, 1]⟩)
  (h13 : S_.BroadcastsInDim ⟨4, ![4, N, 4096, 1]⟩ (![] : Fin 0 → Fin 4))
  (h14 : S1x1x1x1.BroadcastsInDim ⟨4, ![4, N, 4096, 1]⟩ (![0, 1, 2, 3] : Fin 4 → Fin 4))
  (h15 : S1.BroadcastsInDim S1x1x1x1 (![3] : Fin 1 → Fin 4))
  (h16 : (⟨4, ![4, N, 4096, 1]⟩ : Shape).ReducesTo [3] ⟨3, ![4, N, 4096]⟩)
  (h17 : GatherDims.WF ⟨3, ![4, N, 4096]⟩ ⟨4, ![4, N, 4096, 1]⟩ ⟨3, ![4, N, 4096]⟩ [] [2] [0, 1] [2] [0, 1] 3 ![1, 1, 1])

/-- The distances of all receivers from the senders, as the reference computes them. -/
def all : FVec Ideal ⟨3, ![4, N, 4096]⟩ .f32 := distances R (send A L) h1 h2 h3 h4 h5 h6 h7 h8 h9 h10

/-- The senders of all receivers, sorted, as the reference computes them. -/
def order : IVec ⟨3, ![4, N, 4096]⟩ 32 := sorted (all R A L h1 h2 h3 h4 h5 h6 h7 h8 h9 h10) h11

include hN in
/-- A distance of the reference, with a sender that is not valid at the far point. -/
theorem all_apply (b : Fin 4) (q : Fin N) (j : Fin 4096) : all R A L h1 h2 h3 h4 h5 h6 h7 h8 h9 h10 (ix3 b q j)
    = byReference (Valid (L (ix1 b))) (fun d => R (ix3 b q d)) (fun j d => A (ix3 b j d)) j := by
  refine (distances_apply hN R _ h1 h2 h3 h4 h5 h6 h7 h8 h9 h10 b q j).trans (congrArg _ (funext fun d => ?_))
  rw [send_apply]
  by_cases h : Valid (L (ix1 b)) j
  · have h' : IntOp.cmpi .slt (word j) (L (ix1 b)) = 1#1 := h
    rw [if_pos h, if_pos h']
  · have h' : ¬ IntOp.cmpi .slt (word j) (L (ix1 b)) = 1#1 := h
    rw [if_neg h, if_neg h']

include hN hR hA hL in
/-- The first ten of the reference's sorted senders are the nearest by the kernel's masked squared distances. -/
theorem order_apply (b : Fin 4) (q : Fin N) (k : Fin 10) :
    order R A L h1 h2 h3 h4 h5 h6 h7 h8 h9 h10 h11 (ix3 b q (k.castLE (by decide))) = word (nearest (gaps R A L b q) k) := by
  obtain ⟨B, hB, e⟩ := sorted_apply hN (all R A L h1 h2 h3 h4 h5 h6 h7 h8 h9 h10) h11 b q (k.castLE (by decide))
  refine e.trans (congrArg word ?_)
  refine reference_sorted (Valid (L (ix1 b))) (fun d => hR (ix3 b q d)) (fun j d => hA (ix3 b j d)) (by decide)
    (gap_selects (hL _) (fun d => hR _) (fun j d => hA _)) B (fun i k => (hB i k).trans ?_) k
  rw [all_apply hN, all_apply hN]

include hN hR hA hL in
/-- And the distances taken along them are the roots of those squared distances. -/
theorem order_taken (b : Fin 4) (q : Fin N) (k : Fin 10) :
    taken (all R A L h1 h2 h3 h4 h5 h6 h7 h8 h9 h10) (order R A L h1 h2 h3 h4 h5 h6 h7 h8 h9 h10 h11) h12 h8 h13 h14 h15 h16 h2 h17
      (ix3 b q (k.castLE (by decide))) = Ideal.sqrt (gaps R A L b q (nearest (gaps R A L b q) k)) := by
  rw [taken_apply hN _ _ h12 h8 h13 h14 h15 h16 h2 h17 b q _ _ (order_apply hN R A L hR hA hL h1 h2 h3 h4 h5 h6 h7 h8 h9 h10 h11 b q k),
    all_apply hN]
  exact (reference_dist (Valid (L (ix1 b))) (fun d => hR (ix3 b q d)) (fun j d => hA (ix3 b j d))
    (gap_selects (hL _) (fun d => hR _) (fun j d => hA _)) k).symm
end

/-! ## The ten nearest of each receiver, flattened -/

/-- The two groups of receivers: how many of each batch, where they start among all of the batch, and the lengths of
    the flattened arrays of ten per receiver. -/
def Group (N off M T : Nat) : Prop :=
  (N = 4096 ∧ off = 0 ∧ M = 40960 ∧ T = 163840) ∨ (N = 1024 ∧ off = 4096 ∧ M = 10240 ∧ T = 40960)

section
variable {α : Type} {N off M T : Nat} (hG : Group N off M T)
  (s1 : (⟨3, ![4, 5120, 10]⟩ : Shape).Slices ![0, off, 0] ⟨3, ![4, N, 10]⟩)
  (s2 : (⟨3, ![4, N, 4096]⟩ : Shape).Slices ![0, 0, 0] ⟨3, ![4, N, 10]⟩)
  (c1 : (⟨3, ![4, N, 10]⟩ : Shape).ShapeCasts ⟨1, ![T]⟩)
  (c2 : (⟨3, ![4, N, 10]⟩ : Shape).ShapeCasts ⟨2, ![4, M]⟩) (c3 : (⟨2, ![4, M]⟩ : Shape).ShapeCasts ⟨1, ![T]⟩)

include hG in
/-- Ten columns of one group of receivers: from the array of all receivers, and from the group's own array. -/
theorem slices_eq (X : (⟨3, ![4, 5120, 10]⟩ : Shape).Idx → α) (Y : (⟨3, ![4, N, 4096]⟩ : Shape).Idx → α)
    (h : ∀ (b : Fin 4) (q : Fin N) (k : Fin 10) (q' : Fin 5120), q'.val = off + q.val →
      X (ix3 b q' k) = Y (ix3 b q (k.castLE (by decide)))) :
    extractStridedSlice ⟨3, ![4, N, 10]⟩ ![0, off, 0] X s1 = extractStridedSlice ⟨3, ![4, N, 10]⟩ ![0, 0, 0] Y s2 := by
  rcases hG with ⟨rfl, rfl, rfl, rfl⟩ | ⟨rfl, rfl, rfl, rfl⟩ <;>
  · funext z
    obtain ⟨b, q, k, rfl⟩ : ∃ b q k, z = ix3 b q k :=
      ⟨z 0, z 1, z 2, by funext a; match a with | ⟨0, _⟩ => rfl | ⟨1, _⟩ => rfl | ⟨2, _⟩ => rfl⟩
    pointwise
    exact h b q k _ (by simp)

include hG in
/-- The distances of one group. -/
theorem edges_eq (X : (⟨3, ![4, 5120, 10]⟩ : Shape).Idx → α) (Y : (⟨3, ![4, N, 4096]⟩ : Shape).Idx → α)
    (h : ∀ (b : Fin 4) (q : Fin N) (k : Fin 10) (q' : Fin 5120), q'.val = off + q.val →
      X (ix3 b q' k) = Y (ix3 b q (k.castLE (by decide)))) :
    shapeCast ⟨1, ![T]⟩ (extractStridedSlice ⟨3, ![4, N, 10]⟩ ![0, off, 0] X s1) c1
      = shapeCast ⟨1, ![T]⟩ (shapeCast ⟨2, ![4, M]⟩ (extractStridedSlice ⟨3, ![4, N, 10]⟩ ![0, 0, 0] Y s2) c2) c3 := by
  rw [shapeCast_comp, slices_eq hG s1 s2 X Y h]

include hG in
/-- The senders of one group, numbered through all batches. -/
theorem senders_eq (X O : IVec ⟨3, ![4, 5120, 10]⟩ 32) (Y : IVec ⟨3, ![4, N, 4096]⟩ 32) (V : IVec S4 32)
    (h4 : S4.BroadcastsInDim ⟨2, ![4, M]⟩ (![0] : Fin 1 → Fin 2))
    (hO : ∀ b q k, O (ix3 b q k) = V (ix1 b))
    (h : ∀ (b : Fin 4) (q : Fin N) (k : Fin 10) (q' : Fin 5120), q'.val = off + q.val →
      X (ix3 b q' k) = Y (ix3 b q (k.castLE (by decide)))) :
    shapeCast ⟨1, ![T]⟩ (extractStridedSlice ⟨3, ![4, N, 10]⟩ ![0, off, 0] (addi X O) s1) c1
      = addi (shapeCast ⟨1, ![T]⟩ (shapeCast ⟨2, ![4, M]⟩ (extractStridedSlice ⟨3, ![4, N, 10]⟩ ![0, 0, 0] Y s2) c2) c3)
          (shapeCast ⟨1, ![T]⟩ (broadcastInDim ⟨2, ![4, M]⟩ ![0] h4 V) c3) := by
  have e : shapeCast ⟨2, ![4, M]⟩ (extractStridedSlice ⟨3, ![4, N, 10]⟩ ![0, off, 0] (addi X O) s1) c2
      = addi (shapeCast ⟨2, ![4, M]⟩ (extractStridedSlice ⟨3, ![4, N, 10]⟩ ![0, 0, 0] Y s2) c2) (broadcastInDim ⟨2, ![4, M]⟩ ![0] h4 V) := by
    rw [← slices_eq hG s1 s2 X Y h]
    rcases hG with ⟨rfl, rfl, rfl, rfl⟩ | ⟨rfl, rfl, rfl, rfl⟩ <;>
    · funext z
      obtain ⟨b, q, rfl⟩ : ∃ b q, z = ix2 b q := ⟨z 0, z 1, by funext a; match a with | ⟨0, _⟩ => rfl | ⟨1, _⟩ => rfl⟩
      pointwise
      rw [hO]
  calc _ = shapeCast ⟨1, ![T]⟩ (shapeCast ⟨2, ![4, M]⟩ (extractStridedSlice ⟨3, ![4, N, 10]⟩ ![0, off, 0] (addi X O) s1) c2) c3 := by
        rw [shapeCast_comp]
    _ = _ := by rw [e]; rfl
end

end Cert.Knn.Reference

end
-- ==== Proof.Out.lean ====
/- What the kernel leaves in the two blocks it writes. -/
module

public import proofs.«01_k».proof.Proof.Compare
public import proofs.«01_k».proof.Proof.Gen.KernelIdeal.Frame
public import Idealize.ShloMosaic.Lib.VecWindow
public import Idealize.ShloMosaic.Lib.Pipeline.ValueKit.Tiles

@[expose] public section

set_option maxRecDepth 65536

noncomputable section

namespace Cert.Knn

open Idealize.ShloMosaic Idealize.ShloMosaic.TcCoe Idealize.ShloMosaic.VecWindow Cert.KernelIdeal Cert.KernelIdeal.Gen

variable (c : Dev nD) (i : grid0.Coords) (arg3 : Memref sig .tc .vmem S1x512x3 .f32) (harg3 : arg3.IsWhole)
  (arg4 : Memref sig .tc .vmem S1x3x4096 .f32) (harg4 : arg4.IsWhole) (arg5 : Memref sig .tc .vmem S1x512x10 .f32)
  (harg5 : arg5.IsWhole) (arg6 : Memref sig .tc .vmem S1x512x10 .i32) (harg6 : arg6.IsWhole)
  (x0 : Vec Ideal S1x512x3 .f32) (x1 : Vec Ideal S1x3x4096 .f32) (xt0 : TbBuf0 (F := Ideal) c tbM0_0)

/-- The number of valid senders that the body reads. -/
def count : BitVec 32 := xt0 (ix1 (i 0))

/-- The number of valid senders, as a grid step reads it. -/
theorem count_read : kernelRun0_A.sl.r c i xt0 = count c i xt0 := by
  unfold kernelRun0_A.sl.r count
  rw [View.readAt_apply]
  show xt0 _ = xt0 _
  congr 1
  funext a
  apply Fin.ext
  match a with
  | ⟨0, _⟩ =>
    show k0_off1 i 0 + 1 * (Shape.Idx.first (s := S1) _ 0).val = (i 0).val
    have h1 : (Shape.Idx.first (s := S1) (numel1_S1.symm ▸ Nat.one_pos) 0).val < 1 :=
      (Shape.Idx.first (s := S1) (numel1_S1.symm ▸ Nat.one_pos) 0).isLt
    have h2 : k0_off1 i 0 = (i 0).val := by
      have h : (i 0).val < 4 := (i 0).isLt
      unfold k0_off1 Scalar.indexCast
      simp
      omega
    omega

include harg3 harg4 in
/-- What the first part of the kernel's body hands to the second. -/
theorem pieces : kernelRun0_A.sl.r_1 c i arg3 harg3 arg4 harg4 x0 x1 xt0 = k0_pay6 x0 x1 (count c i xt0)
    ∧ kernelRun0_A.sl.r_2 c i arg3 harg3 arg4 harg4 x0 x1 xt0 = k0_pay7 x0 x1 (count c i xt0)
    ∧ kernelRun0_A.sl.r_3 c i arg3 harg3 arg4 harg4 x0 x1 xt0 = k0_pay8 x0 x1 (count c i xt0) := by
  have e0 := (View.readAt_full arg3.view (harg3.unread x0) inb_S1x512x3_S1x512x3_0_0_0).trans (harg3.read_unread x0)
  have e1 := (View.readAt_full arg4.view (harg4.unread x1) inb_S1x3x4096_S1x3x4096_0_0_0).trans (harg4.read_unread x1)
  unfold kernelRun0_A.sl.r_1 kernelRun0_A.sl.r_2 kernelRun0_A.sl.r_3
  rw [count_read, e0, e1]
  exact ⟨rfl, rfl, rfl⟩

/-- The block of distances that a grid step writes: what the ten rounds show, under the root. -/
theorem out_edges : out0_A_2 c i arg3 harg3 arg4 harg4 arg5 harg5 arg6 harg6 x0 x1 xt0
    = k0_pay1 (sqrt (cols fun k => ((first x0 x1 (count c i xt0)).pops (others x0 x1 (count c i xt0)) k).min)) := by
  unfold out0_A_2 kernelRun0_A
  dsimp only
  refine (View.read_writes_full _ _ _ _ _).trans (congrArg k0_pay1 ?_)
  obtain ⟨h1, h2, h3⟩ := pieces c i arg3 harg3 arg4 harg4 x0 x1 xt0
  unfold first others
  rw [← h1, ← h2, ← h3]
  exact edges_block rfl rfl rfl rfl rfl rfl rfl rfl rfl

/-- The block of senders that a grid step writes: what the ten rounds show. -/
theorem out_senders : out0_A_3 c i arg3 harg3 arg4 harg4 arg5 harg5 arg6 harg6 x0 x1 xt0
    = shapeCast S1x512x10 (cols fun k => ((first x0 x1 (count c i xt0)).pops (others x0 x1 (count c i xt0)) k).idx)
        shapeCasts_S512x10_S1x512x10 := by
  unfold out0_A_3 kernelRun0_A
  dsimp only
  refine (View.read_writes_full _ _ _ _ _).trans ?_
  obtain ⟨h1, h2, h3⟩ := pieces c i arg3 harg3 arg4 harg4 x0 x1 xt0
  unfold first others
  rw [← h1, ← h2, ← h3]
  exact senders_block rfl rfl rfl rfl rfl rfl rfl rfl rfl

/-- The blocks at a row and a round. -/
theorem edges_at (p : Fin 512) (k : Fin 10) : out0_A_2 c i arg3 harg3 arg4 harg4 arg5 harg5 arg6 harg6 x0 x1 xt0 (ix3 0 p k)
    = Ideal.sqrt (((first x0 x1 (count c i xt0)).pops (others x0 x1 (count c i xt0)) k).min (ix2 p 0)) := by
  rw [out_edges]
  unfold k0_pay1
  pointwise
  exact congrArg Ideal.sqrt (cols_apply _ p k)

/-- An entry of the block of senders. -/
theorem senders_at (p : Fin 512) (k : Fin 10) : out0_A_3 c i arg3 harg3 arg4 harg4 arg5 harg5 arg6 harg6 x0 x1 xt0 (ix3 0 p k)
    = ((first x0 x1 (count c i xt0)).pops (others x0 x1 (count c i xt0)) k).idx (ix2 p 0) := by
  rw [out_senders]
  pointwise
  exact cols_apply _ p k

end Cert.Knn

end
-- ==== Proof.Arrays.lean ====
/- The two arrays the kernel's pipeline writes. -/
module

public import proofs.«01_k».proof.Proof.Out
public import proofs.«01_k».proof.Proof.Model
public import Idealize.ShloMosaic.Lib.StableHlo.RunRead
public import Idealize.ShloMosaic.Lib.Pipeline.ValueKit
public import Idealize.ShloMosaic.Lib.Pipeline.Covers

@[expose] public section

set_option maxRecDepth 65536

noncomputable section

namespace Cert.Knn

open Idealize.ShloMosaic Idealize.ShloMosaic.TcCoe Cert.KernelIdeal Cert.KernelIdeal.Gen

variable (m : (ℓ : Loc nD τ sig) → Buf (Elt Ideal) ℓ) (hO : Ok m) (c : Dev nD)

/-- A block's index from the block's number along each axis of the output. -/
theorem map_surj (β : (a : Fin 3) → Fin ((S4x5120x10.size a + S1x512x10.size a - 1) / S1x512x10.size a)) :
    ∃ i : grid0.Coords, ∀ a, cc0_transform_2 i a = β a := by
  have h0 : (β 0).val < 4 := (β 0).isLt
  have h1 : (β 1).val < 10 := (β 1).isLt
  have h2 : (β 2).val < 1 := (β 2).isLt
  refine ⟨fun a => match a with | ⟨0, _⟩ => ⟨(β 0).val, h0⟩ | ⟨1, _⟩ => ⟨(β 1).val, h1⟩, fun a => ?_⟩
  match a with
  | ⟨0, _⟩ => show (BitVec.ofNat 32 (β 0).val).toNat = (β 0).val; rw [BitVec.toNat_ofNat]; omega
  | ⟨1, _⟩ => show (BitVec.ofNat 32 (β 1).val).toNat = (β 1).val; rw [BitVec.toNat_ofNat]; omega
  | ⟨2, _⟩ => show 0 = (β 2).val; omega

/-- The blocks of distances fill their array. -/
theorem covers2 : ((cfgM m hO).win 2).Covers :=
  ((cfgM m hO).win 2).covers_of_indexMap_surj rfl (by show ∀ a : Fin 3, 0 < S1x512x10.size a; decide) fun β => map_surj β

/-- The blocks of senders fill theirs. -/
theorem covers3 : ((cfgM m hO).win 3).Covers :=
  ((cfgM m hO).win 3).covers_of_indexMap_surj rfl (by show ∀ a : Fin 3, 0 < S1x512x10.size a; decide) fun β => map_surj β

/-- The blocks' indices at a point of the grid. -/
theorem index_facts : ∀ t : Fin grid0.N,
    cc0_transform_0 (grid0.coords t) = ![(grid0.coords t 0).val, (grid0.coords t 1).val, 0]
    ∧ cc0_transform_1 (grid0.coords t) = ![(grid0.coords t 0).val, 0, 0]
    ∧ cc0_transform_2 (grid0.coords t) = ![(grid0.coords t 0).val, (grid0.coords t 1).val, 0]
    ∧ cc0_transform_3 (grid0.coords t) = ![(grid0.coords t 0).val, (grid0.coords t 1).val, 0] := by
  decide +kernel

/-- Where an entry of a block of receivers lies in the array of all receivers. -/
theorem emb0 (t : Fin (cfgM m hO).N) (y : S1x512x3.Idx) (z : S4x5120x3.Idx)
    (h0 : (z 0).val = (grid0.coords t 0).val) (h1 : (z 1).val = (grid0.coords t 1).val * 512 + (y 1).val)
    (h2 : (z 2).val = (y 2).val) : (((cfgM m hO).win 0).blk t).view.emb y = z := by
  obtain ⟨e, _, _, _⟩ := index_facts t
  have e : ((cfgM m hO).win 0).index t = _ := e
  blk_ext [e]

/-- Where an entry of a block of senders lies in the array of all senders. -/
theorem emb1 (t : Fin (cfgM m hO).N) (y : S1x3x4096.Idx) (z : S4x3x4096.Idx)
    (h0 : (z 0).val = (grid0.coords t 0).val) (h1 : (z 1).val = (y 1).val)
    (h2 : (z 2).val = (y 2).val) : (((cfgM m hO).win 1).blk t).view.emb y = z := by
  obtain ⟨_, e, _, _⟩ := index_facts t
  have e : ((cfgM m hO).win 1).index t = _ := e
  blk_ext [e]

/-- Where an entry of a block of distances lies in the array of all distances. -/
theorem emb2 (t : Fin (cfgM m hO).N) (y : S1x512x10.Idx) (z : S4x5120x10.Idx)
    (h0 : (z 0).val = (grid0.coords t 0).val) (h1 : (z 1).val = (grid0.coords t 1).val * 512 + (y 1).val)
    (h2 : (z 2).val = (y 2).val) : (((cfgM m hO).win 2).blk t).view.emb y = z := by
  obtain ⟨_, _, e, _⟩ := index_facts t
  have e : ((cfgM m hO).win 2).index t = _ := e
  blk_ext [e]

/-- Where an entry of a block of chosen senders lies in the array of all of them. -/
theorem emb3 (t : Fin (cfgM m hO).N) (y : S1x512x10.Idx) (z : S4x5120x10.Idx)
    (h0 : (z 0).val = (grid0.coords t 0).val) (h1 : (z 1).val = (grid0.coords t 1).val * 512 + (y 1).val)
    (h2 : (z 2).val = (y 2).val) : (((cfgM m hO).win 3).blk t).view.emb y = z := by
  obtain ⟨_, _, _, e⟩ := index_facts t
  have e : ((cfgM m hO).win 3).index t = _ := e
  blk_ext [e]

/-- The batch of a point of the grid. -/
def batch (t : Fin (cfgM m hO).N) : Fin 4 := grid0.coords t 0
/-- The receiver of row `p` of a point of the grid. -/
def recv (t : Fin (cfgM m hO).N) (p : Fin 512) : Fin 5120 :=
  ⟨(grid0.coords t 1).val * 512 + p.val, by have : (grid0.coords t 1).val < 10 := (grid0.coords t 1).isLt; omega⟩

/-- All receivers: the senders' points and then the test points. -/
def points : Vec Ideal S4x5120x3 .f32 := V m c main_v0
/-- The senders. -/
def senders : Vec Ideal S4x4096x3 .f32 := m (c, Proc.devRef .tc main_arg0)
/-- The number of valid senders of each batch. -/
def counts : IVec S4 32 := m (c, Proc.devRef .tc main_arg3)

/-- The transposed senders, as the host writes them. -/
theorem v1_read (W : Valuation τ sig (Elt Ideal)) : StableHlo.after hostOps0 W (Proc.devRef .tc main_v1)
    = transpose S4x3x4096 [0, 2, 1] (W (Proc.devRef .tc main_arg0)) transposes_S4x4096x3_S4x3x4096_0_2_1 := by
  after_reads_simp

/-- The transposed senders, entry by entry. -/
theorem V_main_v1 (b : Fin 4) (d : Fin 3) (j : Fin 4096) : V m c main_v1 (ix3 b d j) = senders m c (ix3 b j d) := by
  have e : V m c main_v1 = transpose S4x3x4096 [0, 2, 1] (senders m c) transposes_S4x4096x3_S4x3x4096_0_2_1 :=
    v1_read fun b => m (c, b)
  rw [e]
  pointwise

/-- The receivers that a grid step reads. -/
theorem iblk0_at (t : Fin (cfgM m hO).N) (p : Fin 512) (d : Fin 3) :
    iblk m hO c 0 t (ix3 0 p d) = points m c (ix3 (batch m hO t) (recv m hO t p) d) :=
  congrArg (V m c main_v0) (emb0 m hO t (ix3 0 p d) _ rfl rfl rfl)

/-- The senders that a grid step reads. -/
theorem iblk1_at (t : Fin (cfgM m hO).N) (d : Fin 3) (j : Fin 4096) :
    iblk m hO c 1 t (ix3 0 d j) = senders m c (ix3 (batch m hO t) j d) :=
  (congrArg (V m c main_v1) (emb1 m hO t (ix3 0 d j) (ix3 (batch m hO t) d j) rfl rfl rfl)).trans (V_main_v1 m c _ d j)

/-- The number of valid senders that a grid step reads. -/
theorem count_at (t : Fin (cfgM m hO).N) : count c (grid0.coords t) (tbl m 0) = counts m c (ix1 (batch m hO t)) := by
  obtain rfl : c = 0 := Subsingleton.elim _ _
  exact congrFun (V_main_arg3 m 0) (ix1 (batch m hO t))

/-- The distances of one receiver from the valid senders of its batch. -/
def gapAt (b : Fin 4) (q : Fin 5120) : Fin 4096 → EReal :=
  gap (counts m c (ix1 b)) (fun d => points m c (ix3 b q d)) (fun j d => senders m c (ix3 b j d))

/-- The distances of the ten nearest senders of each receiver. -/
def edges : Vec Ideal S4x5120x10 .f32 := fun z => Ideal.sqrt (gapAt m c (z 0) (z 1) (nearest (gapAt m c (z 0) (z 1)) (z 2)))
/-- The ten nearest senders of each receiver. -/
def chosen : Vec Ideal S4x5120x10 .i32 := fun z => word (nearest (gapAt m c (z 0) (z 1)) (z 2))

/-- An entry of the distances. -/
theorem edges_apply (b : Fin 4) (q : Fin 5120) (k : Fin 10) :
    edges m c (ix3 b q k) = Ideal.sqrt (gapAt m c b q (nearest (gapAt m c b q) k)) := rfl
/-- An entry of the chosen senders. -/
theorem chosen_apply (b : Fin 4) (q : Fin 5120) (k : Fin 10) :
    chosen m c (ix3 b q k) = word (nearest (gapAt m c b q) k) := rfl

variable (hP : ∀ i, Near (points m c i)) (hA : ∀ i, Near (senders m c i)) (hL : ∀ i, 2048 ≤ (counts m c i).toInt)

include hP hA hL in
/-- Round `k` of a grid step shows, for each receiver of its block, the sender that is nearest but `k` and the squared distance to it. -/
theorem block_at (t : Fin (cfgM m hO).N) (p : Fin 512) (k : Fin 10) :
    ((first (iblk m hO c 0 t) (iblk m hO c 1 t) (count c (grid0.coords t) (tbl m 0))).pops
        (others (iblk m hO c 0 t) (iblk m hO c 1 t) (count c (grid0.coords t) (tbl m 0))) k).min (ix2 p 0)
      = gapAt m c (batch m hO t) (recv m hO t p) (nearest (gapAt m c (batch m hO t) (recv m hO t p)) k)
    ∧ ((first (iblk m hO c 0 t) (iblk m hO c 1 t) (count c (grid0.coords t) (tbl m 0))).pops
        (others (iblk m hO c 0 t) (iblk m hO c 1 t) (count c (grid0.coords t) (tbl m 0))) k).idx (ix2 p 0)
      = word (nearest (gapAt m c (batch m hO t) (recv m hO t p)) k) := by
  have e : gap (count c (grid0.coords t) (tbl m 0)) (fun d => iblk m hO c 0 t (ix3 0 p d)) (fun j d => iblk m hO c 1 t (ix3 0 d j))
      = gapAt m c (batch m hO t) (recv m hO t p) := by
    unfold gapAt
    rw [count_at m hO c t, funext (iblk0_at m hO c t p), funext fun j => funext fun d => iblk1_at m hO c t d j]
  have h := block_nearest (iblk m hO c 0 t) (iblk m hO c 1 t) (count c (grid0.coords t) (tbl m 0))
    (by rw [count_at m hO c t]; exact hL _) p (fun d => by rw [iblk0_at]; exact hP _) (fun j d => by rw [iblk1_at]; exact hA _) k
  rw [e] at h
  exact h

/-- An index into an output block is a receiver and a round. -/
theorem ix_block (y : S1x512x10.Idx) : ∃ (p : Fin 512) (k : Fin 10), y = ix3 0 p k :=
  ⟨y 1, y 2, by funext a; match a with | ⟨0, _⟩ => exact Subsingleton.elim (α := Fin 1) _ _ | ⟨1, _⟩ => rfl | ⟨2, _⟩ => rfl⟩

include hP hA hL in
/-- What a grid step writes is its block of the distances and of the chosen senders. -/
theorem outs_at (t : Fin (cfgM m hO).N) (p : Fin 512) (k : Fin 10) :
    (outsAt0 m hO c t).1 (ix3 0 p k) = edges m c (ix3 (batch m hO t) (recv m hO t p) k)
    ∧ (outsAt0 m hO c t).2 (ix3 0 p k) = chosen m c (ix3 (batch m hO t) (recv m hO t p) k) := by
  obtain ⟨h1, h2⟩ := block_at m hO c hP hA hL t p k
  have e1 := edges_at c (grid0.coords t) (ms0_0 m hO t) (hs0_0 m hO t) (ms0_1 m hO t) (hs0_1 m hO t) (ms0_2 m hO t)
    (hs0_2 m hO t) (ms0_3 m hO t) (hs0_3 m hO t) (iblk m hO c 0 t) (iblk m hO c 1 t) (tbl m 0) p k
  have e2 := senders_at c (grid0.coords t) (ms0_0 m hO t) (hs0_0 m hO t) (ms0_1 m hO t) (hs0_1 m hO t) (ms0_2 m hO t)
    (hs0_2 m hO t) (ms0_3 m hO t) (hs0_3 m hO t) (iblk m hO c 0 t) (iblk m hO c 1 t) (tbl m 0) p k
  rw [edges_apply, chosen_apply, ← h1, ← h2]
  rw [← e1, ← e2]
  unfold outsAt0
  dsimp only
  exact ⟨rfl, rfl⟩

include hP hA hL in
/-- After all grid steps the array of distances holds them all. -/
theorem edges_array : (dats m hO 0 c).arrAt 2 (cfgM m hO).N = edges m c := by
  refine (dats m hO 0 c).arrAt_eq_of_covers 2 _ (covers2 m hO) fun t hf y => ?_
  blk_simp
  rw [after0_2]
  obtain ⟨p, k, rfl⟩ := ix_block y
  rw [emb2 m hO t (ix3 0 p k) (ix3 (batch m hO t) (recv m hO t p) k) rfl rfl rfl]
  exact (outs_at m hO c hP hA hL t p k).1

include hP hA hL in
/-- And the array of chosen senders holds them all. -/
theorem chosen_array : (dats m hO 0 c).arrAt 3 (cfgM m hO).N = chosen m c := by
  refine (dats m hO 0 c).arrAt_eq_of_covers 3 _ (covers3 m hO) fun t hf y => ?_
  blk_simp
  rw [after0_3]
  obtain ⟨p, k, rfl⟩ := ix_block y
  rw [emb3 m hO t (ix3 0 p k) (ix3 (batch m hO t) (recv m hO t p) k) rfl rfl rfl]
  exact (outs_at m hO c hP hA hL t p k).2

end Cert.Knn

end
-- ==== Proof.Tail.lean ====
/- The kernel's host program, before and after its pipeline, as functions of the arrays. -/
module

public import proofs.«01_k».proof.Proof.Arrays
public import Idealize.ShloMosaic.Lib.Pipeline.ValueKit
public import Idealize.ShloMosaic.Lib.Pointwise
public import Idealize.ShloMosaic.Lib.StableHlo.RunRead

@[expose] public section

set_option maxRecDepth 65536

noncomputable section

namespace Cert.Knn

open Idealize.ShloMosaic Idealize.ShloMosaic.TcCoe Cert.KernelIdeal Cert.KernelIdeal.Gen

variable (W : Valuation τ sig (Elt Ideal))

/-- Where each batch's senders start among all batches. -/
def starts : IVec S4x5120x10 32 :=
  broadcastInDim S4x5120x10 ![0, 1, 2] bcast_S4x1x1_S4x5120x10_0_1_2 (broadcastInDim S4x1x1 ![0] bcast_S4_S4x1x1_0 (muli (iotaInDim S4 32 0) (broadcastInDim S4 ![] bcast_S_S4 (constantI S_ 32 4096#32))))

/-- The senders' numbers, as the host program after the pipeline sees them. -/
def numbered : IVec S4x5120x10 32 := addi (W (Proc.devRef .tc main_v2_1) : IVec S4x5120x10 32) starts

/-- The senders chosen for the first 4096 receivers, flattened. -/
theorem read_v10 : StableHlo.upto hostOps1 W 15 (Proc.devRef .tc main_v10) = shapeCast S163840
    (extractStridedSlice S4x4096x10 ![0, 0, 0] (numbered W) slices_S4x5120x10_S4x4096x10_0_0_0) shapeCasts_S4x4096x10_S163840 := by
  after_reads_simp
  rfl
/-- The senders chosen for the other 1024 receivers, flattened. -/
theorem read_v12 : StableHlo.upto hostOps1 W 15 (Proc.devRef .tc main_v12) = shapeCast S40960
    (extractStridedSlice S4x1024x10 ![0, 4096, 0] (numbered W) slices_S4x5120x10_S4x1024x10_0_4096_0) shapeCasts_S4x1024x10_S40960 := by
  after_reads_simp
  rfl
/-- The distances of the first 4096 receivers, flattened. -/
theorem read_v14 : StableHlo.upto hostOps1 W 16 (Proc.devRef .tc main_v14) = shapeCast S163840
    (extractStridedSlice S4x4096x10 ![0, 0, 0] (W (Proc.devRef .tc main_v2_0)) slices_S4x5120x10_S4x4096x10_0_0_0) shapeCasts_S4x4096x10_S163840 := by
  after_reads_simp
  rfl
/-- The distances of the other 1024 receivers, flattened. -/
theorem read_v16 : StableHlo.upto hostOps1 W 16 (Proc.devRef .tc main_v16) = shapeCast S40960
    (extractStridedSlice S4x1024x10 ![0, 4096, 0] (W (Proc.devRef .tc main_v2_0)) slices_S4x5120x10_S4x1024x10_0_4096_0) shapeCasts_S4x1024x10_S40960 := by
  after_reads_simp
  rfl

/-- The returned senders: one group of receivers after the other. -/
theorem read_v17 : StableHlo.after hostOps1 W (Proc.devRef .tc main_v17) = concatenate S204800 0
    [⟨S163840, shapeCast S163840 (extractStridedSlice S4x4096x10 ![0, 0, 0] (numbered W) slices_S4x5120x10_S4x4096x10_0_0_0) shapeCasts_S4x4096x10_S163840⟩,
     ⟨S40960, shapeCast S40960 (extractStridedSlice S4x1024x10 ![0, 4096, 0] (numbered W) slices_S4x5120x10_S4x1024x10_0_4096_0) shapeCasts_S4x1024x10_S40960⟩]
    concatenates_S163840_S40960_S204800_d0 := by
  after_reads_simp
  exact congrArg₂ (fun a b => concatenate S204800 0 [⟨S163840, a⟩, ⟨S40960, b⟩] concatenates_S163840_S40960_S204800_d0)
    (read_v10 W) (read_v12 W)

/-- The returned distances: one group of receivers after the other. -/
theorem read_v18 : StableHlo.after hostOps1 W (Proc.devRef .tc main_v18) = concatenate S204800 0
    [⟨S163840, shapeCast S163840 (extractStridedSlice S4x4096x10 ![0, 0, 0] (W (Proc.devRef .tc main_v2_0)) slices_S4x5120x10_S4x4096x10_0_0_0) shapeCasts_S4x4096x10_S163840⟩,
     ⟨S40960, shapeCast S40960 (extractStridedSlice S4x1024x10 ![0, 4096, 0] (W (Proc.devRef .tc main_v2_0)) slices_S4x5120x10_S4x1024x10_0_4096_0) shapeCasts_S4x1024x10_S40960⟩]
    concatenates_S163840_S40960_S204800_d0 := by
  after_reads_simp
  exact congrArg₂ (fun a b => concatenate S204800 0 [⟨S163840, a⟩, ⟨S40960, b⟩] concatenates_S163840_S40960_S204800_d0)
    (read_v14 W) (read_v16 W)

/-- The receivers' numbers, ten times each. -/
theorem read_v21 : StableHlo.after hostOps1 W (Proc.devRef .tc main_v21) = shapeCast S204800
    (broadcastInDim S20480x10 ![0] bcast_S20480_S20480x10_0 (iotaInDim S20480 32 0)) shapeCasts_S20480x10_S204800 := by
  after_reads_simp
  rfl

/-- The receivers: the context points, then the test points of each batch. -/
theorem read_v0 : StableHlo.after hostOps0 W (Proc.devRef .tc main_v0) = concatenate S4x5120x3 1
    [⟨S4x4096x3, W (Proc.devRef .tc main_arg0)⟩, ⟨S4x1024x3, W (Proc.devRef .tc main_arg2)⟩]
    concatenates_S4x4096x3_S4x1024x3_S4x5120x3_d1 := by
  after_reads_simp
  rfl

/-- The number that is added to a sender is the first of its batch. -/
theorem starts_apply (b : Fin 4) (q : Fin 5120) (k : Fin 10) :
    starts (ix3 b q k) = (muli (iotaInDim S4 32 0) (broadcastInDim S4 ![] bcast_S_S4 (constantI S_ 32 4096#32))) (ix1 b) := by
  unfold starts
  pointwise

variable (X : Vec Ideal S4x4096x3 .f32) (Y : Vec Ideal S4x1024x3 .f32)

/-- The senders' points and then the test points. -/
def joined : Vec Ideal S4x5120x3 .f32 := concatenate S4x5120x3 1 [⟨S4x4096x3, X⟩, ⟨S4x1024x3, Y⟩] concatenates_S4x4096x3_S4x1024x3_S4x5120x3_d1

/-- The first 4096 points of a batch are from the first array. -/
theorem joined_left (b : Fin 4) (q : Fin 5120) (d : Fin 3) (q' : Fin 4096) (h : q.val = q'.val) : joined X Y (ix3 b q d) = X (ix3 b q' d) := by
  unfold joined
  pointwise
  rw [dif_pos (by omega)]
  exact congrArg (fun x => X (ix3 b x d)) (Fin.ext h)

/-- The other 1024 are from the second. -/
theorem joined_right (b : Fin 4) (q : Fin 5120) (d : Fin 3) (q' : Fin 1024) (h : q.val = 4096 + q'.val) : joined X Y (ix3 b q d) = Y (ix3 b q' d) := by
  unfold joined
  pointwise
  rw [dif_neg (by omega)]
  exact congrArg (fun x => Y (ix3 b x d)) (Fin.ext (by simp only; omega))

/-- Points within reach stay so when joined. -/
theorem near_joined (hX : ∀ i, Near (X i)) (hY : ∀ i, Near (Y i)) (i : S4x5120x3.Idx) : Near (joined X Y i) := by
  obtain ⟨b, q, d, rfl⟩ : ∃ b q d, i = ix3 b q d :=
    ⟨i 0, i 1, i 2, by funext a; match a with | ⟨0, _⟩ => rfl | ⟨1, _⟩ => rfl | ⟨2, _⟩ => rfl⟩
  by_cases h : q.val < 4096
  · rw [joined_left X Y b q d ⟨q.val, h⟩ rfl]
    exact hX _
  · have := q.isLt
    rw [joined_right X Y b q d ⟨q.val - 4096, by omega⟩ (by simp only; omega)]
    exact hY _

end Cert.Knn

end
-- ==== Proof.Values.lean ====
/- The kernel's program run from memories whose points lie near the origin: its three results. -/
module

public import proofs.«01_k».proof.Proof.Tail

@[expose] public section

set_option maxRecDepth 65536

noncomputable section

namespace Cert.Knn

open Idealize.ShloMosaic Idealize.ShloMosaic.TcCoe Idealize.SL.Sem Cert.KernelIdeal Cert.KernelIdeal.Gen

/-- An array of ten entries per receiver, flattened: the receivers that are senders first, then the test points. -/
def flat {α : Type} (X : S4x5120x10.Idx → α) : S204800.Idx → α :=
  concatenate S204800 0
    [⟨S163840, shapeCast S163840 (extractStridedSlice S4x4096x10 ![0, 0, 0] X slices_S4x5120x10_S4x4096x10_0_0_0) shapeCasts_S4x4096x10_S163840⟩,
     ⟨S40960, shapeCast S40960 (extractStridedSlice S4x1024x10 ![0, 4096, 0] X slices_S4x5120x10_S4x1024x10_0_4096_0) shapeCasts_S4x1024x10_S40960⟩]
    concatenates_S163840_S40960_S204800_d0

/-- The numbers of the receivers, ten times each. -/
def receivers : S204800.Idx → BitVec 32 :=
  shapeCast S204800 (broadcastInDim S20480x10 ![0] bcast_S20480_S20480x10_0 (iotaInDim S20480 32 0)) shapeCasts_S20480x10_S204800

variable (m : (ℓ : Loc nD τ sig) → Buf (Elt Ideal) ℓ) (ρ : Dev nD → PrngReg) (hO : Ok m)

/-- The test points. -/
def tests (c : Dev nD) : Vec Ideal S4x1024x3 .f32 := m (c, Proc.devRef .tc main_arg2)

/-- The receivers are the context points and the test points, joined. -/
theorem points_eq (c : Dev nD) : points m c = joined (senders m c) (tests m c) := read_v0 fun b => m (c, b)

variable (hA : ∀ c i, Near (senders m c i)) (hT : ∀ c i, Near (tests m c i)) (hL : ∀ c i, 2048 ≤ (counts m c i).toInt)

include hA hT hL in
/-- What the grid steps leave in the two output arrays. -/
theorem arrays (c : Dev nD) : (dats m hO 0 c).arrAt 2 (cfgM m hO).N = edges m c ∧ (dats m hO 0 c).arrAt 3 (cfgM m hO).N = chosen m c := by
  have hP : ∀ i, Near (points m c i) := by rw [points_eq]; exact near_joined _ _ (hA c) (hT c)
  exact ⟨edges_array m hO c hP (hA c) (hL c), chosen_array m hO c hP (hA c) (hL c)⟩

/-- Memory as the pipeline leaves it. -/
def left (c : Dev nD) : Valuation τ sig (Elt Ideal) :=
  Pipeline.withArrays spec0 c (V0 m c) fun w => (dats m hO 0 c).arrAt w (cfgM m hO).N

/-- The host code after the grid steps starts from what they leave. -/
theorem tail_eq (c : Dev nD) (b : Ref sig .tc) : Pipeline.afterTail pcfgs (fun _ => adm m hO) (dats m hO) 0 (V0 m) [hostOps1] c b
    = StableHlo.after hostOps1 (left m hO c) (Proc.devRef .tc b) := by
  unfold Pipeline.afterTail
  simp only [List.flatten_cons, List.flatten_nil, List.append_nil]
  rfl

/-- What the grid steps leave in the array of a window. -/
theorem left_arr (c : Dev nD) (w : Fin 4) : left m hO c (Proc.devRef .tc (Pipeline.arrRef spec0 w)) = (dats m hO 0 c).arrAt w (cfgM m hO).N :=
  Pipeline.withArrays_arr spec0 (by decide) c _ _ w

include hA hT hL in
/-- The kernel's first result. -/
theorem tail_v18 (c : Dev nD) : Pipeline.afterTail pcfgs (fun _ => adm m hO) (dats m hO) 0 (V0 m) [hostOps1] c main_v18 = flat (edges m c) := by
  rw [tail_eq, read_v18]
  have e : left m hO c (Proc.devRef .tc main_v2_0) = edges m c := (left_arr m hO c 2).trans (arrays m hO hA hT hL c).1
  rw [e]
  rfl

include hA hT hL in
/-- The kernel's second result. -/
theorem tail_v17 (c : Dev nD) : Pipeline.afterTail pcfgs (fun _ => adm m hO) (dats m hO) 0 (V0 m) [hostOps1] c main_v17 = flat (addi (chosen m c) starts) := by
  rw [tail_eq, read_v17]
  unfold numbered
  have e : left m hO c (Proc.devRef .tc main_v2_1) = chosen m c := (left_arr m hO c 3).trans (arrays m hO hA hT hL c).2
  rw [e]
  rfl

/-- The kernel's third result. -/
theorem tail_v21 (c : Dev nD) : Pipeline.afterTail pcfgs (fun _ => adm m hO) (dats m hO) 0 (V0 m) [hostOps1] c main_v21 = receivers := by
  rw [tail_eq, read_v21]
  rfl

include hO hA hT hL in
/-- The program ends with the flattened arrays. -/
theorem kernel_run : θ_run defs (onTc (τ := τ) (main (F := Ideal))) ⟨m, fun _ => 0, ρ⟩ (fun r => ∀ c : Dev nD,
      r.2.mem ((c.tc : Thread nD τ).loc main_v18) = flat (edges m c)
      ∧ r.2.mem ((c.tc : Thread nD τ).loc main_v17) = flat (addi (chosen m c) starts)
      ∧ r.2.mem ((c.tc : Thread nD τ).loc main_v21) = receivers
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v18 (by decide : main_v18 ∈ Pipeline.restRefs sig spec0)).trans (tail_v18 m hO hA hT hL c),
      ((h c).2 main_v17 (by decide : main_v17 ∈ Pipeline.restRefs sig spec0)).trans (tail_v17 m hO hA hT hL c),
      ((h c).2 main_v21 (by decide : main_v21 ∈ Pipeline.restRefs sig spec0)).trans (tail_v21 m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c)⟩) (run_main m ρ hO)

end Cert.Knn

end
-- ==== Proof.Results.lean ====
/- The reference's three results, and that they are the kernel's. -/
module

public import proofs.«01_k».proof.Proof.Half
public import proofs.«01_k».proof.Proof.Values

@[expose] public section

set_option maxRecDepth 65536

noncomputable section

namespace Cert.Knn.Reference

open Idealize.ShloMosaic Idealize.ShloMosaic.TcCoe Idealize.SL.Sem Cert.ReferenceIdeal Cert.ReferenceIdeal.Facts₀

section
variable (X : FVec Ideal S4x4096x3 .f32) (Y : FVec Ideal S4x1024x3 .f32) (L : IVec S4 32)

/-! ## The reference's terms, for the senders as receivers and for the test points -/

/-- The distances of the context points to the masked senders. -/
def allX : FVec Ideal S4x4096x4096 .f32 :=
  all (N := 4096) X X L reducesTo_S4x4096x3_S4x4096_d2 h_S_ bcast_S4x4096_S4x4096x1_0_1 bcast_S4x4096x1_S4x4096x4096_0_1_2
    reducesTo_S4x4096x3_S4x4096_d2 bcast_S4x4096_S4x1x4096_0_2 bcast_S4x1x4096_S4x4096x4096_0_1_2 bcast_S_S4x4096x4096
    dot_S4x4096x3_S4x3x4096_S4x4096x4096_2_1_1_2_0_0_wf transposes_S4x4096x3_S4x3x4096_0_2_1

/-- The senders in the order of those distances. -/
def orderX : IVec S4x4096x4096 32 := sorted (N := 4096) (allX X L) bcast_S4096x4096_S4x4096x4096_1_2

/-- Those distances in that order. -/
def takenX : FVec Ideal S4x4096x4096 .f32 :=
  taken (N := 4096) (allX X L) (orderX X L) shapeCasts_S4x4096x4096_S4x4096x4096x1 bcast_S_S4x4096x4096 bcast_S_S4x4096x4096x1
    bcast_S1x1x1x1_S4x4096x4096x1_0_1_2_3 bcast_S1_S1x1x1x1_3 reducesTo_S4x4096x4096x1_S4x4096x4096_d3 h_S_
    gather_S4x4096x4096_S4x4096x4096x1_S4x4096x4096_n_2_01_01_2_3_111_wf

/-- The distances of the test points to the masked senders. -/
def allY : FVec Ideal S4x1024x4096 .f32 :=
  all (N := 1024) Y X L reducesTo_S4x1024x3_S4x1024_d2 h_S_ bcast_S4x1024_S4x1024x1_0_1 bcast_S4x1024x1_S4x1024x4096_0_1_2
    reducesTo_S4x4096x3_S4x4096_d2 bcast_S4x4096_S4x1x4096_0_2 bcast_S4x1x4096_S4x1024x4096_0_1_2 bcast_S_S4x1024x4096
    dot_S4x1024x3_S4x3x4096_S4x1024x4096_2_1_1_2_0_0_wf transposes_S4x4096x3_S4x3x4096_0_2_1

/-- The senders in the order of those distances. -/
def orderY : IVec S4x1024x4096 32 := sorted (N := 1024) (allY X Y L) bcast_S1024x4096_S4x1024x4096_1_2

/-- Those distances in that order. -/
def takenY : FVec Ideal S4x1024x4096 .f32 :=
  taken (N := 1024) (allY X Y L) (orderY X Y L) shapeCasts_S4x1024x4096_S4x1024x4096x1 bcast_S_S4x1024x4096 bcast_S_S4x1024x4096x1
    bcast_S1x1x1x1_S4x1024x4096x1_0_1_2_3 bcast_S1_S1x1x1x1_3 reducesTo_S4x1024x4096x1_S4x1024x4096_d3 h_S_
    gather_S4x1024x4096_S4x1024x4096x1_S4x1024x4096_n_2_01_01_2_3_111_wf

/-- Where each batch's senders start among all batches. -/
def starts : IVec S4 32 := muli (iotaInDim S4 32 0) (broadcastInDim S4 ![] bcast_S_S4 (constantI S_ 32 4096#32))

/-- The reference's distances, flattened. -/
def refEdges : S204800.Idx → Ideal .f32 := concatenate S204800 0
  [⟨S163840, shapeCast S163840 (shapeCast S4x40960 (extractStridedSlice S4x4096x10 ![0, 0, 0] (takenX X L) slices_S4x4096x4096_S4x4096x10_0_0_0) shapeCasts_S4x4096x10_S4x40960) shapeCasts_S4x40960_S163840⟩,
   ⟨S40960, shapeCast S40960 (shapeCast S4x10240 (extractStridedSlice S4x1024x10 ![0, 0, 0] (takenY X Y L) slices_S4x1024x4096_S4x1024x10_0_0_0) shapeCasts_S4x1024x10_S4x10240) shapeCasts_S4x10240_S40960⟩]
  concatenates_S163840_S40960_S204800_d0

/-- The reference's senders, flattened. -/
def refSenders : S204800.Idx → BitVec 32 := concatenate S204800 0
  [⟨S163840, addi (shapeCast S163840 (shapeCast S4x40960 (extractStridedSlice S4x4096x10 ![0, 0, 0] (orderX X L) slices_S4x4096x4096_S4x4096x10_0_0_0) shapeCasts_S4x4096x10_S4x40960) shapeCasts_S4x40960_S163840)
      (shapeCast S163840 (broadcastInDim S4x40960 ![0] bcast_S4_S4x40960_0 starts) shapeCasts_S4x40960_S163840)⟩,
   ⟨S40960, addi (shapeCast S40960 (shapeCast S4x10240 (extractStridedSlice S4x1024x10 ![0, 0, 0] (orderY X Y L) slices_S4x1024x4096_S4x1024x10_0_0_0) shapeCasts_S4x1024x10_S4x10240) shapeCasts_S4x10240_S40960)
      (shapeCast S40960 (broadcastInDim S4x10240 ![0] bcast_S4_S4x10240_0 starts) shapeCasts_S4x10240_S40960)⟩]
  concatenates_S163840_S40960_S204800_d0
end

variable (m : (ℓ : Loc nD τ sig) → Buf (Elt Ideal) ℓ) (c : Dev nD)

/-- The reference's second result. -/
theorem res_senders : Value.res_main_v68 m c = refSenders (m ((c.tc : Thread nD τ).loc main_arg0)) (m ((c.tc : Thread nD τ).loc main_arg2)) (m ((c.tc : Thread nD τ).loc main_arg3)) := by
  unfold Value.res_main_v68
  rfl

/-- The reference's first result. -/
theorem res_edges : Value.res_main_v71 m c = refEdges (m ((c.tc : Thread nD τ).loc main_arg0)) (m ((c.tc : Thread nD τ).loc main_arg2)) (m ((c.tc : Thread nD τ).loc main_arg3)) := by
  unfold Value.res_main_v71
  rfl

/-! ## They are the kernel's -/

section
variable (m : (ℓ : Loc Cert.KernelIdeal.nD Cert.KernelIdeal.τ Cert.KernelIdeal.sig) → Buf (Elt Ideal) ℓ) (c : Dev Cert.KernelIdeal.nD)

/-- The first 4096 receivers of a batch are its context points. -/
theorem gapAt_X (b : Fin 4) (q : Fin 4096) (q' : Fin 5120) (h : q'.val = 0 + q.val) :
    gapAt m c b q' = gaps (N := 4096) (Cert.Knn.senders m c) (Cert.Knn.senders m c) (counts m c) b q := by
  unfold gapAt gaps
  rw [points_eq]
  exact congrArg (fun r => gap _ r _) (funext fun d => joined_left _ _ b q' d q (by omega))

/-- The other 1024 are its test points. -/
theorem gapAt_Y (b : Fin 4) (q : Fin 1024) (q' : Fin 5120) (h : q'.val = 4096 + q.val) :
    gapAt m c b q' = gaps (N := 1024) (tests m c) (Cert.Knn.senders m c) (counts m c) b q := by
  unfold gapAt gaps
  rw [points_eq]
  exact congrArg (fun r => gap _ r _) (funext fun d => joined_right _ _ b q' d q h)

variable (hA : ∀ i, Near (Cert.Knn.senders m c i)) (hT : ∀ i, Near (tests m c i)) (hL : ∀ i, 2048 ≤ (counts m c i).toInt)

include hA hT hL in
/-- The kernel's distances are the reference's. -/
theorem edges_agree : flat (edges m c) = refEdges (Cert.Knn.senders m c) (tests m c) (counts m c) := by
  refine congrArg₂ (fun a b => concatenate S204800 0 [⟨S163840, a⟩, ⟨S40960, b⟩] concatenates_S163840_S40960_S204800_d0) ?_ ?_
  · refine edges_eq (Or.inl ⟨rfl, rfl, rfl, rfl⟩) _ _ _ _ _ _ _ fun b q k q' h => ?_
    rw [edges_apply, gapAt_X m c b q q' h]
    exact (order_taken (Or.inl rfl) _ _ _ hA hA hL _ _ _ _ _ _ _ _ _ _ _ _ _ _ _ _ _ b q k).symm
  · refine edges_eq (Or.inr ⟨rfl, rfl, rfl, rfl⟩) _ _ _ _ _ _ _ fun b q k q' h => ?_
    rw [edges_apply, gapAt_Y m c b q q' h]
    exact (order_taken (Or.inr rfl) _ _ _ hT hA hL _ _ _ _ _ _ _ _ _ _ _ _ _ _ _ _ _ b q k).symm

include hA hT hL in
/-- The kernel's senders are the reference's. -/
theorem senders_agree : flat (addi (chosen m c) Cert.Knn.starts) = refSenders (Cert.Knn.senders m c) (tests m c) (counts m c) := by
  refine congrArg₂ (fun a b => concatenate S204800 0 [⟨S163840, a⟩, ⟨S40960, b⟩] concatenates_S163840_S40960_S204800_d0) ?_ ?_
  · refine senders_eq (Or.inl ⟨rfl, rfl, rfl, rfl⟩) _ _ _ _ _ _ _ _ _ _ starts_apply fun b q k q' h => ?_
    rw [chosen_apply, gapAt_X m c b q q' h]
    exact (order_apply (Or.inl rfl) _ _ _ hA hA hL _ _ _ _ _ _ _ _ _ _ _ b q k).symm
  · refine senders_eq (Or.inr ⟨rfl, rfl, rfl, rfl⟩) _ _ _ _ _ _ _ _ _ _ starts_apply fun b q k q' h => ?_
    rw [chosen_apply, gapAt_Y m c b q q' h]
    exact (order_apply (Or.inr rfl) _ _ _ hT hA hL _ _ _ _ _ _ _ _ _ _ _ b q k).symm
end

end Cert.Knn.Reference

end
-- ==== Proof.Reach.lean ====
/- What the precondition says: every point lies near the origin, and in each batch the first 2048 senders are valid. -/
module

public import proofs.«01_k».proof.Proof.Compare
public import proofs.«01_k».proof.Proof.Gen.Pre_in_reach
public import Idealize.ShloMosaic.Lib.ReduceAll
public import Idealize.ShloMosaic.Lib.Affine
public import Idealize.ShloMosaic.Lib.Pointwise

@[expose] public section

set_option maxRecDepth 65536

noncomputable section

namespace Cert.Knn

open Idealize.ShloMosaic Cert.Pre_in_reach Cert.Pre_in_reach.Facts

/-- The comparison of an absolute value with the bound, read back. -/
theorem near_of_cmp {x : Ideal .f32} (h : FloatOps.cmpf .ole (FloatOps.absf x) (FloatOps.ofBits .f32 0x48A2C2A0#32 : Ideal .f32) = 1#1) : Near x := by
  have h : BitVec.ofBool (decide (max x (-x) ≤ Ideal.ofBits .f32 0x48A2C2A0#32)) = 1#1 := h
  rw [StableHlo.Predicate.ofBool_eq_one_iff, decide_eq_true_iff] at h
  exact h

/-- What the precondition says of the arguments, entry by entry. -/
theorem in_reach [Facts] (x : FVec Ideal S4x4096x3 .f32) (y : FVec Ideal S4x4096x8 .f32) (z : FVec Ideal S4x1024x3 .f32) (w : IVec S4 32)
    (h : fn x y z w = fun _ => 1#1) : (∀ i, Near (x i)) ∧ (∀ i, Near (z i)) ∧ ∀ i, 2048 ≤ (w i).toInt := by
  have h := congrFun h ix0
  dsimp only [fn] at h
  obtain ⟨h, hw⟩ := IntOp.andi_eq_one.mp h
  obtain ⟨hx, hz⟩ := IntOp.andi_eq_one.mp h
  have : Subsingleton S_.Idx := ⟨fun a b => funext fun i => i.elim0⟩
  exact ⟨fun i => near_of_cmp (Host.reduce_andi_all _ _ _ _ _ hx i), fun i => near_of_cmp (Host.reduce_andi_all _ _ _ _ _ hz i),
    fun i => IntOp.cmpi_sge.mp (Host.reduce_andi_all _ _ _ _ _ hw i)⟩

end Cert.Knn

end
-- ==== Proof.lean ====
module

public import proofs.«01_k».proof.Proof.Gen.Pre_in_reach
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import proofs.«01_k».proof.Proof.Reach

@[expose] public section

noncomputable section

namespace Cert.Proof

open Idealize.ShloMosaic Idealize.SL.Sem

/-- The index maps read no word of the table, so the pipeline's side condition on it is `True`. -/
theorem frame_kernel : Cert.quiescent_Kernel := fun m ρ _ => Cert.Kernel.Gen.frame m ρ trivial

/-- The same over the extended reals. -/
theorem frame_kernelIdeal : Cert.quiescent_KernelIdeal := fun m ρ _ => Cert.KernelIdeal.Gen.frame m ρ trivial

/-- The reference declares no semaphore, so its counters are zero. -/
theorem frame_reference : Cert.quiescent_ReferenceIdeal := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

open Cert.Knn in
/-- The edges, the senders and the receivers of the two programs are the same arrays. -/
theorem algebraic : Cert.algebraic_KernelIdeal_ReferenceIdeal_pre_in_reach := by
  intro m g m' g' hp hm
  have hr := fun c => in_reach _ _ _ _ (hp c)
  have hA : ∀ c i, Near (senders m c i) := fun c => (hr c).1
  have hT : ∀ c i, Near (tests m c i) := fun c => (hr c).2.1
  have hL : ∀ c i, 2048 ≤ (counts m c i).toInt := fun c => (hr c).2.2
  refine ⟨fun c => flat (edges m c), fun c => flat (addi (chosen m c) starts), fun _ => receivers,
    kernel_run m g trivial hA hT hL,
    (θ_run Cert.ReferenceIdeal.defs _ _).mono (fun r h c => ?_) (Cert.ReferenceIdeal.Value.run (F := Ideal) m' g')⟩
  obtain ⟨h0, -, h2, h3⟩ := hm c
  refine ⟨(h c).1.trans ?_, (h c).2.1.trans ?_, (h c).2.2⟩
  · rw [Reference.res_edges, h0, h2, h3]
    exact (Reference.edges_agree m c (hA c) (hT c) (hL c)).symm
  · rw [Reference.res_senders, h0, h2, h3]
    exact (Reference.senders_agree m c (hA c) (hT c) (hL c)).symm

/-- All that is claimed. -/
theorem claim : Cert.Claim :=
  ⟨Cert.Kernel.Gen.facts, Cert.KernelIdeal.Gen.facts, Cert.ReferenceIdeal.Gen.facts, Cert.Pre_in_reach.Gen.facts,
    frame_kernel, frame_kernelIdeal, fun m g _ => frame_kernelIdeal m g trivial, frame_reference,
    fun m g _ => frame_reference m g trivial, trivial, algebraic⟩

end Cert.Proof

end
